-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_operands [hPre_finite_operands : Cert.Pre_finite_operands.Facts] (m : (ℓ : Loc Cert.KernelIdeal.nD Cert.KernelIdeal.τ Cert.KernelIdeal.sig) → Buf (Elt Ideal) ℓ) : Prop :=
  ∀ c : Dev Cert.KernelIdeal.nD,
    (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_operands [hPre_finite_operands : Cert.Pre_finite_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_operands [hKernelIdeal : Cert.KernelIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_operands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_operands [hReferenceIdeal : Cert.ReferenceIdeal.Facts] [hPre_finite_operands : Cert.Pre_finite_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_operands [hKernelIdeal : Cert.KernelIdeal.Facts] [hReferenceIdeal : Cert.ReferenceIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_operands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_operands : Cert.Pre_finite_operands.Facts),
    quiescent_Kernel (hKernel := hKernel)
    ∧ quiescent_KernelIdeal (hKernelIdeal := hKernelIdeal)
    ∧ quiescent_KernelIdeal_pre_finite_operands (hKernelIdeal := hKernelIdeal) (hPre_finite_operands := hPre_finite_operands)
    ∧ quiescent_ReferenceIdeal (hReferenceIdeal := hReferenceIdeal)
    ∧ quiescent_ReferenceIdeal_pre_finite_operands (hReferenceIdeal := hReferenceIdeal) (hPre_finite_operands := hPre_finite_operands)
    ∧ preserves_Kernel_KernelIdeal
    ∧ algebraic_KernelIdeal_ReferenceIdeal_pre_finite_operands (hKernelIdeal := hKernelIdeal) (hReferenceIdeal := hReferenceIdeal) (hPre_finite_operands := hPre_finite_operands)
-- ==== Pre_finite_operands.lean ====
abbrev S10000x256 : Shape := ⟨2, ![10000, 256]⟩
abbrev S2x160000 : Shape := ⟨2, ![2, 160000]⟩
abbrev S160000 : Shape := ⟨1, ![160000]⟩
abbrev S10000x128 : Shape := ⟨2, ![10000, 128]⟩
abbrev S2x1x384x128 : Shape := ⟨4, ![2, 1, 384, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S2x1x384x128 : S_.BroadcastsInDim S2x1x384x128 (![] : Fin 0 → Fin S2x1x384x128.rank)
  reducesTo_S2x1x384x128_S_d0_1_2_3 : S2x1x384x128.ReducesTo [0, 1, 2, 3] S_

variable [Facts]

def fn_part1 {F : FTy → Type} [FloatOps F] (main_arg8 : FVec F S2x1x384x128 .f32) (main_v13 : IVec S_ 1) (main_v16 : IVec S2x1x384x128 1) : IVec S_ 1 :=
  let main_c_5 : IVec S_ 1 := constantI S_ 1 1#1
  let main_v17 : IVec S_ 1 := (fun x v => Host.reduce IntOp.andi x v reducesTo_S2x1x384x128_S_d0_1_2_3 h_S_) main_v16 main_c_5
  let main_v18 : IVec S_ 1 := andi main_v13 main_v17
  let main_v19 : FVec F S2x1x384x128 .f32 := Host.absf main_arg8
  let main_cst_6 : FVec F S_ .f32 := constant S_ .f32 0x7F800000#32
  let main_v20 : FVec F S2x1x384x128 .f32 := broadcastInDim S2x1x384x128 ![] bcast_S_S2x1x384x128 main_cst_6
  let main_v21 : IVec S2x1x384x128 1 := cmpf .olt main_v19 main_v20
  let main_c_7 : IVec S_ 1 := constantI S_ 1 1#1
  let main_v22 : IVec S_ 1 := (fun x v => Host.reduce IntOp.andi x v reducesTo_S2x1x384x128_S_d0_1_2_3 h_S_) main_v21 main_c_7
  let main_v23 : IVec S_ 1 := andi main_v18 main_v22
  main_v23

def fn {F : FTy → Type} [FloatOps F] (main_arg0 : FVec F S10000x256 .f32) (main_arg1 : IVec S2x160000 32) (main_arg2 : FVec F S160000 .f32) (main_arg3 : FVec F S10000x128 .f32) (main_arg4 : FVec F S2x1x384x128 .f32) (main_arg5 : FVec F S128 .f32) (main_arg6 : FVec F S2x1x384x128 .f32) (main_arg7 : FVec F S128 .f32) (main_arg8 : FVec F S2x1x384x128 .f32) (main_arg9 : FVec F S128 .f32) (main_arg10 : FVec F S1x128 .f32) (main_arg11 : FVec F S1 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x128 .f32 := Host.absf main_arg3
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S2x1x384x128 .f32 := Host.absf main_arg4
  let main_cst_2 : FVec F S_ .f32 := constant S_ .f32 0x7F800000#32
  let main_v10 : FVec F S2x1x384x128 .f32 := broadcastInDim S2x1x384x128 ![] bcast_S_S2x1x384x128 main_cst_2
  let main_v11 : IVec S2x1x384x128 1 := cmpf .olt main_v9 main_v10
  let main_c_3 : IVec S_ 1 := constantI S_ 1 1#1
  let main_v12 : IVec S_ 1 := (fun x v => Host.reduce IntOp.andi x v reducesTo_S2x1x384x128_S_d0_1_2_3 h_S_) main_v11 main_c_3
  let main_v13 : IVec S_ 1 := andi main_v8 main_v12
  let main_v14 : FVec F S2x1x384x128 .f32 := Host.absf main_arg6
  let main_cst_4 : FVec F S_ .f32 := constant S_ .f32 0x7F800000#32
  let main_v15 : FVec F S2x1x384x128 .f32 := broadcastInDim S2x1x384x128 ![] bcast_S_S2x1x384x128 main_cst_4
  let main_v16 : IVec S2x1x384x128 1 := cmpf .olt main_v14 main_v15
  fn_part1 (F := F) main_arg8 main_v13 main_v16
-- ==== Kernel.lean ====
abbrev S10000x256 : Shape := ⟨2, ![10000, 256]⟩
abbrev S2x160000 : Shape := ⟨2, ![2, 160000]⟩
abbrev S160000 : Shape := ⟨1, ![160000]⟩
abbrev S10000x128 : Shape := ⟨2, ![10000, 128]⟩
abbrev S2x1x384x128 : Shape := ⟨4, ![2, 1, 384, 128]⟩
abbrev S128 : Shape := ⟨1, ![128]⟩
abbrev S1x128 : Shape := ⟨2, ![1, 128]⟩
abbrev S1 : Shape := ⟨1, ![1]⟩
abbrev S10000x1 : Shape := ⟨2, ![10000, 1]⟩
abbrev S3x2000x256 : Shape := ⟨3, ![3, 2000, 256]⟩
abbrev S3x2000x128 : Shape := ⟨3, ![3, 2000, 128]⟩
abbrev S3x2000x1 : Shape := ⟨3, ![3, 2000, 1]⟩
abbrev S384x384 : Shape := ⟨2, ![384, 384]⟩
abbrev S3 : Shape := ⟨1, ![3]⟩
abbrev S_ : Shape := ⟨0, ![]⟩
abbrev S1x2000x256 : Shape := ⟨3, ![1, 2000, 256]⟩
abbrev S2000x256 : Shape := ⟨2, ![2000, 256]⟩
abbrev S1x2000x128 : Shape := ⟨3, ![1, 2000, 128]⟩
abbrev S2000x128 : Shape := ⟨2, ![2000, 128]⟩
abbrev S1x1x384x128 : Shape := ⟨4, ![1, 1, 384, 128]⟩
abbrev S384x128 : Shape := ⟨2, ![384, 128]⟩
abbrev S256x384 : Shape := ⟨2, ![256, 384]⟩
abbrev S2000x384 : Shape := ⟨2, ![2000, 384]⟩
abbrev S128x256 : Shape := ⟨2, ![128, 256]⟩
abbrev S128x128 : Shape := ⟨2, ![128, 128]⟩
abbrev S2000 : Shape := ⟨1, ![2000]⟩
abbrev S2000x1 : Shape := ⟨2, ![2000, 1]⟩
abbrev S1x1 : Shape := ⟨2, ![1, 1]⟩
abbrev S1x2000x1 : Shape := ⟨3, ![1, 2000, 1]⟩

abbrev nBuf : Space → Nat
  | .hbm => 14
  | .vmem => 13
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S160000, .f32⟩
  | .hbm, ⟨3, _⟩ => ⟨S10000x128, .f32⟩
  | .hbm, ⟨4, _⟩ => ⟨S2x1x384x128, .f32⟩
  | .hbm, ⟨5, _⟩ => ⟨S128, .f32⟩
  | .hbm, ⟨6, _⟩ => ⟨S2x1x384x128, .f32⟩
  | .hbm, ⟨7, _⟩ => ⟨S128, .f32⟩
  | .hbm, ⟨8, _⟩ => ⟨S2x1x384x128, .f32⟩
  | .hbm, ⟨9, _⟩ => ⟨S128, .f32⟩
  | .hbm, ⟨10, _⟩ => ⟨S1x128, .f32⟩
  | .hbm, ⟨11, _⟩ => ⟨S1, .f32⟩
  | .hbm, ⟨12, _⟩ => ⟨S10000x1, .f32⟩
  | .hbm, ⟨13, _⟩ => ⟨S10000x128, .f32⟩
  | .local _ .vmem, ⟨0, _⟩ => ⟨S2x1x384x128, .f32⟩
  | .local _ .vmem, ⟨1, _⟩ => ⟨S128, .f32⟩
  | .local _ .vmem, ⟨2, _⟩ => ⟨S2x1x384x128, .f32⟩
  | .local _ .vmem, ⟨3, _⟩ => ⟨S128, .f32⟩
  | .local _ .vmem, ⟨4, _⟩ => ⟨S2x1x384x128, .f32⟩
  | .local _ .vmem, ⟨5, _⟩ => ⟨S128, .f32⟩
  | .local _ .vmem, ⟨6, _⟩ => ⟨S1x128, .f32⟩
  | .local _ .vmem, ⟨7, _⟩ => ⟨S1, .f32⟩
  | .local _ .vmem, ⟨8, _⟩ => ⟨S3x2000x256, .f32⟩
  | .local _ .vmem, ⟨9, _⟩ => ⟨S3x2000x128, .f32⟩
  | .local _ .vmem, ⟨10, _⟩ => ⟨S3x2000x128, .f32⟩
  | .local _ .vmem, ⟨11, _⟩ => ⟨S3x2000x1, .f32⟩
  | .local _ .vmem, ⟨12, _⟩ => ⟨S384x384, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x1x384x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x384x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1x384x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S10000x256 : Shape := ⟨2, ![10000, 256]⟩
abbrev S2x160000 : Shape := ⟨2, ![2, 160000]⟩
abbrev S160000 : Shape := ⟨1, ![160000]⟩
abbrev S10000x128 : Shape := ⟨2, ![10000, 128]⟩
abbrev S2x1x384x128 : Shape := ⟨4, ![2, 1, 384, 128]⟩
abbrev S128 : Shape := ⟨1, ![128]⟩
abbrev S1x128 : Shape := ⟨2, ![1, 128]⟩
abbrev S1 : Shape := ⟨1, ![1]⟩
abbrev S10000x384 : Shape := ⟨2, ![10000, 384]⟩
abbrev S1x1x384x128 : Shape := ⟨4, ![1, 1, 384, 128]⟩
abbrev S384x128 : Shape := ⟨2, ![384, 128]⟩
abbrev S_ : Shape := ⟨0, ![]⟩
abbrev S128x1 : Shape := ⟨2, ![128, 1]⟩
abbrev S10000x1 : Shape := ⟨2, ![10000, 1]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S160000, .f32⟩
  | .hbm, ⟨3, _⟩ => ⟨S10000x128, .f32⟩
  | .hbm, ⟨4, _⟩ => ⟨S2x1x384x128, .f32⟩
  | .hbm, ⟨5, _⟩ => ⟨S128, .f32⟩
  | .hbm, ⟨6, _⟩ => ⟨S2x1x384x128, .f32⟩
  | .hbm, ⟨7, _⟩ => ⟨S128, .f32⟩
  | .hbm, ⟨8, _⟩ => ⟨S2x1x384x128, .f32⟩
  | .hbm, ⟨9, _⟩ => ⟨S128, .f32⟩
  | .hbm, ⟨10, _⟩ => ⟨S1x128, .f32⟩
  | .hbm, ⟨11, _⟩ => ⟨S1, .f32⟩
  | .hbm, ⟨12, _⟩ => ⟨S10000x384, .f32⟩
  | .hbm, ⟨13, _⟩ => ⟨S1x1x384x128, .f32⟩
  | .hbm, ⟨14, _⟩ => ⟨S384x128, .f32⟩
  | .hbm, ⟨15, _⟩ => ⟨S10000x128, .f32⟩
  | .hbm, ⟨16, _⟩ => ⟨S1x1x384x128, .f32⟩
  | .hbm, ⟨17, _⟩ => ⟨S384x128, .f32⟩
  | .hbm, ⟨18, _⟩ => ⟨S10000x128, .f32⟩
  | .hbm, ⟨19, _⟩ => ⟨S10000x128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S_, .f32⟩
  | .hbm, ⟨26, _⟩ => ⟨S10000x128, .f32⟩
  | .hbm, ⟨27, _⟩ => ⟨S10000x128, .f32⟩
  | .hbm, ⟨28, _⟩ => ⟨S_, .f32⟩
  | .hbm, ⟨29, _⟩ => ⟨S10000x128, .f32⟩
  | .hbm, ⟨30, _⟩ => ⟨S10000x128, .f32⟩
  | .hbm, ⟨31, _⟩ => ⟨S1x1x384x128, .f32⟩
  | .hbm, ⟨32, _⟩ => ⟨S384x128, .f32⟩
  | .hbm, ⟨33, _⟩ => ⟨S10000x128, .f32⟩
  | .hbm, ⟨34, _⟩ => ⟨S1x1x384x128, .f32⟩
  | .hbm, ⟨35, _⟩ => ⟨S384x128, .f32⟩
  | .hbm, ⟨36, _⟩ => ⟨S10000x128, .f32⟩
  | .hbm, ⟨37, _⟩ => ⟨S10000x128, .f32⟩
  | .hbm, ⟨38, _⟩ => ⟨S1x128, .f32⟩
  | .hbm, ⟨39, _⟩ => ⟨S10000x128, .f32⟩
  | .hbm, ⟨40, _⟩ => ⟨S10000x128, .f32⟩
  | .hbm, ⟨41, _⟩ => ⟨S10000x128, .f32⟩
  | .hbm, ⟨42, _⟩ => ⟨S10000x128, .f32⟩
  | .hbm, ⟨43, _⟩ => ⟨S_, .f32⟩
  | .hbm, ⟨44, _⟩ => ⟨S10000x128, .f32⟩
  | .hbm, ⟨45, _⟩ => ⟨S10000x128, .f32⟩
  | .hbm, ⟨46, _⟩ => ⟨S_, .f32⟩
  | .hbm, ⟨47, _⟩ => ⟨S10000x128, .f32⟩
  | .hbm, ⟨48, _⟩ => ⟨S10000x128, .f32⟩
  | .hbm, ⟨49, _⟩ => ⟨S10000x128, .f32⟩
  | .hbm, ⟨50, _⟩ => ⟨S10000x384, .f32⟩
  | .hbm, ⟨51, _⟩ => ⟨S1x1x384x128, .f32⟩
  | .hbm, ⟨52, _⟩ => ⟨S384x128, .f32⟩
  | .hbm, ⟨53, _⟩ => ⟨S10000x128, .f32⟩
  | .hbm, ⟨54, _⟩ => ⟨S1x1x384x128, .f32⟩
  | .hbm, ⟨55, _⟩ => ⟨S384x128, .f32⟩
  | .hbm, ⟨56, _⟩ => ⟨S10000x128, .f32⟩
  | .hbm, ⟨57, _⟩ => ⟨S10000x128, .f32⟩
  | .hbm, ⟨58, _⟩ => ⟨S1x128, .f32⟩
  | .hbm, ⟨59, _⟩ => ⟨S10000x128, .f32⟩
  | .hbm, ⟨60, _⟩ => ⟨S10000x128, .f32⟩
  | .hbm, ⟨61, _⟩ => ⟨S10000x128, .f32⟩
  | .hbm, ⟨62, _⟩ => ⟨S10000x128, .f32⟩
  | .hbm, ⟨63, _⟩ => ⟨S_, .f32⟩
  | .hbm, ⟨64, _⟩ => ⟨S10000x128, .f32⟩
  | .hbm, ⟨65, _⟩ => ⟨S10000x128, .f32⟩
  | .hbm, ⟨66, _⟩ => ⟨S10000x128, .f32⟩
  | .hbm, ⟨67, _⟩ => ⟨S10000x128, .f32⟩
  | .hbm, ⟨68, _⟩ => ⟨S_, .f32⟩
  | .hbm, ⟨69, _⟩ => ⟨S10000x128, .f32⟩
  | .hbm, ⟨70, _⟩ => ⟨S10000x128, .f32⟩
  | .hbm, ⟨71, _⟩ => ⟨S128x1, .f32⟩
  | .hbm, ⟨72, _⟩ => ⟨S10000x1, .f32⟩
  | .hbm, ⟨73, _⟩ => ⟨S1x1, .f32⟩
  | .hbm, ⟨74, _⟩ => ⟨S10000x1, .f32⟩
  | .hbm, ⟨75, _⟩ => ⟨S10000x1, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_1 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_3 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_4 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== Proof.Pieces.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

@[expose] public section

/-! The kernel cuts its two inputs and its two results into five groups of 2000 rows, and keeps three slots of its
scratch rings: the memrefs, the rectangles, and the law that a whole array is its pieces held side by side. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first input array, where it lies. -/
abbrev xM : Memref sig .tc .hbm S10000x256 .f32 := Memref.whole main_arg0
/-- The hidden-state input array. -/
abbrev hM : Memref sig .tc .hbm S10000x128 .f32 := Memref.whole main_arg3
/-- The prediction array. -/
abbrev outM : Memref sig .tc .hbm S10000x1 .f32 := Memref.whole main_v0_0
/-- The new hidden-state array. -/
abbrev HM : Memref sig .tc .hbm S10000x128 .f32 := Memref.whole main_v0_1
/-- The ring of three slots the first input is fetched into. -/
abbrev xs : Memref sig .tc .vmem S3x2000x256 .f32 := Memref.whole cc0_scratch0
/-- The ring of three slots the hidden state is fetched into. -/
abbrev hs : Memref sig .tc .vmem S3x2000x128 .f32 := Memref.whole cc0_scratch1
/-- The ring of three slots the new hidden state leaves from. -/
abbrev Hs : Memref sig .tc .vmem S3x2000x128 .f32 := Memref.whole cc0_scratch2
/-- The ring of three slots the prediction leaves from. -/
abbrev os : Memref sig .tc .vmem S3x2000x1 .f32 := Memref.whole cc0_scratch3
/-- The summed weights of the three gates, side by side. -/
abbrev wb : Memref sig .tc .vmem S384x384 .bf16 := Memref.whole cc0_scratch4

/-- The contents of the buffer under a memref, on core `c`. -/
abbrev Cts (c : Dev nD) {sp : Space} {S : Shape} {e : EltTy} (M : Memref sig .tc sp S e) : Type := Buf (Elt F) (M.view.loc (c : Thread nD τ))

/-- The elements of `M` under the rectangle `R`, held. -/
abbrev piece (c : Dev nD) {sp : Space} {S : Shape} {e : EltTy} (M : Memref sig .tc sp S e) (R : Rect S) (f : Cts (F := F) c M) : sProp 𝕄 :=
  M.view.loc (c : Thread nD τ) ↦[M.view.setOn R.set]{fullShare} f
/-- The elements of `M`, held. -/
abbrev held (c : Dev nD) {sp : Space} {S : Shape} {e : EltTy} (M : Memref sig .tc sp S e) (f : Cts (F := F) c M) : sProp 𝕄 :=
  M.view.loc (c : Thread nD τ) ↦[M.view.set]{fullShare} f

/-- Rows 0 … 1999 of the first input. -/
abbrev xR0 : Rect S10000x256 := Rect.unit (s := S10000x256) ![0, 0] S2000x256.size inb_S10000x256_S2000x256_0_0
/-- Rows 0 … 1999 of the hidden state. -/
abbrev hR0 : Rect S10000x128 := Rect.unit (s := S10000x128) ![0, 0] S2000x128.size inb_S10000x128_S2000x128_0_0
/-- Rows 0 … 1999 of the prediction. -/
abbrev oR0 : Rect S10000x1 := Rect.unit (s := S10000x1) ![0, 0] S2000x1.size inb_S10000x1_S2000x1_0_0
/-- Rows 2000 … 3999 of the first input. -/
abbrev xR1 : Rect S10000x256 := Rect.unit (s := S10000x256) ![2000, 0] S2000x256.size inb_S10000x256_S2000x256_2000_0
/-- Rows 2000 … 3999 of the hidden state. -/
abbrev hR1 : Rect S10000x128 := Rect.unit (s := S10000x128) ![2000, 0] S2000x128.size inb_S10000x128_S2000x128_2000_0
/-- Rows 2000 … 3999 of the prediction. -/
abbrev oR1 : Rect S10000x1 := Rect.unit (s := S10000x1) ![2000, 0] S2000x1.size inb_S10000x1_S2000x1_2000_0
/-- Rows 4000 … 5999 of the first input. -/
abbrev xR2 : Rect S10000x256 := Rect.unit (s := S10000x256) ![4000, 0] S2000x256.size inb_S10000x256_S2000x256_4000_0
/-- Rows 4000 … 5999 of the hidden state. -/
abbrev hR2 : Rect S10000x128 := Rect.unit (s := S10000x128) ![4000, 0] S2000x128.size inb_S10000x128_S2000x128_4000_0
/-- Rows 4000 … 5999 of the prediction. -/
abbrev oR2 : Rect S10000x1 := Rect.unit (s := S10000x1) ![4000, 0] S2000x1.size inb_S10000x1_S2000x1_4000_0
/-- Rows 6000 … 7999 of the first input. -/
abbrev xR3 : Rect S10000x256 := Rect.unit (s := S10000x256) ![6000, 0] S2000x256.size inb_S10000x256_S2000x256_6000_0
/-- Rows 6000 … 7999 of the hidden state. -/
abbrev hR3 : Rect S10000x128 := Rect.unit (s := S10000x128) ![6000, 0] S2000x128.size inb_S10000x128_S2000x128_6000_0
/-- Rows 6000 … 7999 of the prediction. -/
abbrev oR3 : Rect S10000x1 := Rect.unit (s := S10000x1) ![6000, 0] S2000x1.size inb_S10000x1_S2000x1_6000_0
/-- Rows 8000 … 9999 of the first input. -/
abbrev xR4 : Rect S10000x256 := Rect.unit (s := S10000x256) ![8000, 0] S2000x256.size inb_S10000x256_S2000x256_8000_0
/-- Rows 8000 … 9999 of the hidden state. -/
abbrev hR4 : Rect S10000x128 := Rect.unit (s := S10000x128) ![8000, 0] S2000x128.size inb_S10000x128_S2000x128_8000_0
/-- Rows 8000 … 9999 of the prediction. -/
abbrev oR4 : Rect S10000x1 := Rect.unit (s := S10000x1) ![8000, 0] S2000x1.size inb_S10000x1_S2000x1_8000_0
/-- Slot 0 of the ring. -/
abbrev xsR0 : Rect S3x2000x256 := Rect.unit (s := S3x2000x256) ![0, 0, 0] S1x2000x256.size inb_S3x2000x256_S1x2000x256_0_0_0
/-- Slot 0 of the ring. -/
abbrev hsR0 : Rect S3x2000x128 := Rect.unit (s := S3x2000x128) ![0, 0, 0] S1x2000x128.size inb_S3x2000x128_S1x2000x128_0_0_0
/-- Slot 0 of the ring. -/
abbrev osR0 : Rect S3x2000x1 := Rect.unit (s := S3x2000x1) ![0, 0, 0] S1x2000x1.size inb_S3x2000x1_S1x2000x1_0_0_0
/-- Slot 1 of the ring. -/
abbrev xsR1 : Rect S3x2000x256 := Rect.unit (s := S3x2000x256) ![1, 0, 0] S1x2000x256.size inb_S3x2000x256_S1x2000x256_1_0_0
/-- Slot 1 of the ring. -/
abbrev hsR1 : Rect S3x2000x128 := Rect.unit (s := S3x2000x128) ![1, 0, 0] S1x2000x128.size inb_S3x2000x128_S1x2000x128_1_0_0
/-- Slot 1 of the ring. -/
abbrev osR1 : Rect S3x2000x1 := Rect.unit (s := S3x2000x1) ![1, 0, 0] S1x2000x1.size inb_S3x2000x1_S1x2000x1_1_0_0
/-- Slot 2 of the ring. -/
abbrev xsR2 : Rect S3x2000x256 := Rect.unit (s := S3x2000x256) ![2, 0, 0] S1x2000x256.size inb_S3x2000x256_S1x2000x256_2_0_0
/-- Slot 2 of the ring. -/
abbrev hsR2 : Rect S3x2000x128 := Rect.unit (s := S3x2000x128) ![2, 0, 0] S1x2000x128.size inb_S3x2000x128_S1x2000x128_2_0_0
/-- Slot 2 of the ring. -/
abbrev osR2 : Rect S3x2000x1 := Rect.unit (s := S3x2000x1) ![2, 0, 0] S1x2000x1.size inb_S3x2000x1_S1x2000x1_2_0_0

section Split
variable {ℓ : Loc nD τ sig} {A B C D E S : Finset (Idx ℓ)} {q : PosShare TreeShare}

/-- Elements held are their three disjoint parts held. -/
theorem split3 (f : Buf (Elt F) ℓ) (hS : S = A ∪ (B ∪ C)) (hB : Disjoint B C) (hA : Disjoint A (B ∪ C)) :
    (ℓ ↦[S]{q} f : sProp 𝕄) ⊣⊢ iprop((ℓ ↦[A]{q} f) ∗ (ℓ ↦[B]{q} f) ∗ ℓ ↦[C]{q} f) := by
  subst hS
  exact ⟨(pointsTo_union hA).1.trans (sep_mono .rfl (pointsTo_union hB).1),
    (sep_mono .rfl (pointsTo_union hB).2).trans (pointsTo_union hA).2⟩

/-- Elements held are their five disjoint parts held. -/
theorem split5 (f : Buf (Elt F) ℓ) (hS : S = A ∪ (B ∪ (C ∪ (D ∪ E)))) (hD : Disjoint D E) (hC : Disjoint C (D ∪ E))
    (hB : Disjoint B (C ∪ (D ∪ E))) (hA : Disjoint A (B ∪ (C ∪ (D ∪ E)))) :
    (ℓ ↦[S]{q} f : sProp 𝕄) ⊣⊢ iprop((ℓ ↦[A]{q} f) ∗ (ℓ ↦[B]{q} f) ∗ (ℓ ↦[C]{q} f) ∗ (ℓ ↦[D]{q} f) ∗ ℓ ↦[E]{q} f) := by
  subst hS
  have h3 := split3 (F := F) (q := q) f rfl hD hC
  exact ⟨(pointsTo_union hA).1.trans (sep_mono .rfl ((pointsTo_union hB).1.trans (sep_mono .rfl h3.1))),
    (sep_mono .rfl ((sep_mono .rfl h3.2).trans (pointsTo_union hB).2)).trans (pointsTo_union hA).2⟩

/-- Three disjoint parts, held at whatever each holds, are the whole at some contents. -/
theorem join3 (hS : S = A ∪ (B ∪ C)) (hB : Disjoint B C) (hA : Disjoint A (B ∪ C)) (f g h : Buf (Elt F) ℓ) :
    iprop((ℓ ↦[A]{q} f) ∗ (ℓ ↦[B]{q} g) ∗ ℓ ↦[C]{q} h) ⊢ iprop(∃ k, (ℓ ↦[S]{q} k : sProp 𝕄)) := by
  subst hS
  iintro ⟨HA, HB, HC⟩
  iexists _
  iapply (pointsTo_join hA)
  isplitl [HA]; · iexact HA
  iapply (pointsTo_join hB)
  isplitl [HB] <;> iassumption

end Split

/-- Parts cut out of a view by rectangles apart from each other are apart. -/
theorem sep_setOn {κ : Kind} {sp : Space} {s : Shape} {e : EltTy} (v : View sig κ sp s e) (R R' : Rect s)
    (h : Disjoint R.set R'.set) : Disjoint (v.setOn R.set) (v.setOn R'.set) := v.disjoint_setOn h

/-- Two rectangles whose ranges on axis `a` do not meet share no index. -/
theorem rect_apart {s : Shape} (R R' : Rect s) (a : Fin s.rank)
    (h : R.off a + R.stride a * (R.size a - 1) < R'.off a) : Disjoint R.set R'.set :=
  LoadRect.disjoint_of_separated R.toLoadRect R'.toLoadRect a (Or.inl (Or.inr h))

/-- Parts that between them meet every index of the view make it up (three parts). -/
theorem setOn_cover3 {κ : Kind} {sp : Space} {s : Shape} {e : EltTy} (v : View sig κ sp s e) (A B C : Finset s.Idx)
    (h : ∀ y, y ∈ A ∨ y ∈ B ∨ y ∈ C) : v.set = v.setOn A ∪ (v.setOn B ∪ v.setOn C) := by
  have hu : (Finset.univ : Finset s.Idx) = A ∪ (B ∪ C) := by
    symm; rw [Finset.eq_univ_iff_forall]; intro y; simpa only [Finset.mem_union] using h y
  rw [← View.setOn_univ, hu]; unfold View.setOn; rw [Finset.map_union, Finset.map_union]

/-- Parts that between them meet every index of the view make it up (five parts). -/
theorem setOn_cover5 {κ : Kind} {sp : Space} {s : Shape} {e : EltTy} (v : View sig κ sp s e) (A B C D E : Finset s.Idx)
    (h : ∀ y, y ∈ A ∨ y ∈ B ∨ y ∈ C ∨ y ∈ D ∨ y ∈ E) :
    v.set = v.setOn A ∪ (v.setOn B ∪ (v.setOn C ∪ (v.setOn D ∪ v.setOn E))) := by
  have hu : (Finset.univ : Finset s.Idx) = A ∪ (B ∪ (C ∪ (D ∪ E))) := by
    symm; rw [Finset.eq_univ_iff_forall]; intro y; simpa only [Finset.mem_union] using h y
  rw [← View.setOn_univ, hu]; unfold View.setOn; rw [Finset.map_union, Finset.map_union, Finset.map_union, Finset.map_union]

/-- The five row groups of `xM` cover it. -/
theorem xM_cover : xM.view.set = xM.view.setOn xR0.set ∪ (xM.view.setOn xR1.set ∪ (xM.view.setOn xR2.set ∪ (xM.view.setOn xR3.set ∪ xM.view.setOn xR4.set))) := by
  refine setOn_cover5 xM.view _ _ _ _ _ fun y => ?_
  obtain ⟨p, hp, hy⟩ := View.cover_of_tiled (Val := fun _ => Unit) (e := .f32)
    [⟨xR0, fun _ => ()⟩, ⟨xR1, fun _ => ()⟩, ⟨xR2, fun _ => ()⟩, ⟨xR3, fun _ => ()⟩, ⟨xR4, fun _ => ()⟩] ![2000, 256] (by decide) y
  simp only [List.mem_cons, List.not_mem_nil, or_false] at hp
  rcases hp with rfl | rfl | rfl | rfl | rfl
  · exact Or.inl hy
  · exact Or.inr (Or.inl hy)
  · exact Or.inr (Or.inr (Or.inl hy))
  · exact Or.inr (Or.inr (Or.inr (Or.inl hy)))
  · exact Or.inr (Or.inr (Or.inr (Or.inr hy)))
theorem xM_apart0 : Disjoint (xM.view.setOn xR0.set) ((xM.view.setOn xR1.set ∪ (xM.view.setOn xR2.set ∪ (xM.view.setOn xR3.set ∪ xM.view.setOn xR4.set)))) := by
  simp only [Finset.disjoint_union_right]
  exact ⟨sep_setOn _ _ _ (rect_apart _ _ 0 (by decide)), sep_setOn _ _ _ (rect_apart _ _ 0 (by decide)), sep_setOn _ _ _ (rect_apart _ _ 0 (by decide)), sep_setOn _ _ _ (rect_apart _ _ 0 (by decide))⟩
theorem xM_apart1 : Disjoint (xM.view.setOn xR1.set) ((xM.view.setOn xR2.set ∪ (xM.view.setOn xR3.set ∪ xM.view.setOn xR4.set))) := by
  simp only [Finset.disjoint_union_right]
  exact ⟨sep_setOn _ _ _ (rect_apart _ _ 0 (by decide)), sep_setOn _ _ _ (rect_apart _ _ 0 (by decide)), sep_setOn _ _ _ (rect_apart _ _ 0 (by decide))⟩
theorem xM_apart2 : Disjoint (xM.view.setOn xR2.set) ((xM.view.setOn xR3.set ∪ xM.view.setOn xR4.set)) := by
  simp only [Finset.disjoint_union_right]
  exact ⟨sep_setOn _ _ _ (rect_apart _ _ 0 (by decide)), sep_setOn _ _ _ (rect_apart _ _ 0 (by decide))⟩
theorem xM_apart3 : Disjoint (xM.view.setOn xR3.set) (xM.view.setOn xR4.set) := by
  simp only [Finset.disjoint_union_right]
  exact sep_setOn _ _ _ (rect_apart _ _ 0 (by decide))
/-- The whole of `xM` is its five row groups. -/
theorem xM_split (c : Dev nD) (f : Cts (F := F) c xM) :
    (held c xM f : sProp 𝕄) ⊣⊢ iprop(piece c xM xR0 f ∗ piece c xM xR1 f ∗ piece c xM xR2 f ∗ piece c xM xR3 f ∗ piece c xM xR4 f) :=
  split5 f xM_cover xM_apart3 xM_apart2 xM_apart1 xM_apart0

/-- The five row groups of `hM` cover it. -/
theorem hM_cover : hM.view.set = hM.view.setOn hR0.set ∪ (hM.view.setOn hR1.set ∪ (hM.view.setOn hR2.set ∪ (hM.view.setOn hR3.set ∪ hM.view.setOn hR4.set))) := by
  refine setOn_cover5 hM.view _ _ _ _ _ fun y => ?_
  obtain ⟨p, hp, hy⟩ := View.cover_of_tiled (Val := fun _ => Unit) (e := .f32)
    [⟨hR0, fun _ => ()⟩, ⟨hR1, fun _ => ()⟩, ⟨hR2, fun _ => ()⟩, ⟨hR3, fun _ => ()⟩, ⟨hR4, fun _ => ()⟩] ![2000, 128] (by decide) y
  simp only [List.mem_cons, List.not_mem_nil, or_false] at hp
  rcases hp with rfl | rfl | rfl | rfl | rfl
  · exact Or.inl hy
  · exact Or.inr (Or.inl hy)
  · exact Or.inr (Or.inr (Or.inl hy))
  · exact Or.inr (Or.inr (Or.inr (Or.inl hy)))
  · exact Or.inr (Or.inr (Or.inr (Or.inr hy)))
theorem hM_apart0 : Disjoint (hM.view.setOn hR0.set) ((hM.view.setOn hR1.set ∪ (hM.view.setOn hR2.set ∪ (hM.view.setOn hR3.set ∪ hM.view.setOn hR4.set)))) := by
  simp only [Finset.disjoint_union_right]
  exact ⟨sep_setOn _ _ _ (rect_apart _ _ 0 (by decide)), sep_setOn _ _ _ (rect_apart _ _ 0 (by decide)), sep_setOn _ _ _ (rect_apart _ _ 0 (by decide)), sep_setOn _ _ _ (rect_apart _ _ 0 (by decide))⟩
theorem hM_apart1 : Disjoint (hM.view.setOn hR1.set) ((hM.view.setOn hR2.set ∪ (hM.view.setOn hR3.set ∪ hM.view.setOn hR4.set))) := by
  simp only [Finset.disjoint_union_right]
  exact ⟨sep_setOn _ _ _ (rect_apart _ _ 0 (by decide)), sep_setOn _ _ _ (rect_apart _ _ 0 (by decide)), sep_setOn _ _ _ (rect_apart _ _ 0 (by decide))⟩
theorem hM_apart2 : Disjoint (hM.view.setOn hR2.set) ((hM.view.setOn hR3.set ∪ hM.view.setOn hR4.set)) := by
  simp only [Finset.disjoint_union_right]
  exact ⟨sep_setOn _ _ _ (rect_apart _ _ 0 (by decide)), sep_setOn _ _ _ (rect_apart _ _ 0 (by decide))⟩
theorem hM_apart3 : Disjoint (hM.view.setOn hR3.set) (hM.view.setOn hR4.set) := by
  simp only [Finset.disjoint_union_right]
  exact sep_setOn _ _ _ (rect_apart _ _ 0 (by decide))
/-- The whole of `hM` is its five row groups. -/
theorem hM_split (c : Dev nD) (f : Cts (F := F) c hM) :
    (held c hM f : sProp 𝕄) ⊣⊢ iprop(piece c hM hR0 f ∗ piece c hM hR1 f ∗ piece c hM hR2 f ∗ piece c hM hR3 f ∗ piece c hM hR4 f) :=
  split5 f hM_cover hM_apart3 hM_apart2 hM_apart1 hM_apart0

/-- The five row groups of `outM` cover it. -/
theorem outM_cover : outM.view.set = outM.view.setOn oR0.set ∪ (outM.view.setOn oR1.set ∪ (outM.view.setOn oR2.set ∪ (outM.view.setOn oR3.set ∪ outM.view.setOn oR4.set))) := by
  refine setOn_cover5 outM.view _ _ _ _ _ fun y => ?_
  obtain ⟨p, hp, hy⟩ := View.cover_of_tiled (Val := fun _ => Unit) (e := .f32)
    [⟨oR0, fun _ => ()⟩, ⟨oR1, fun _ => ()⟩, ⟨oR2, fun _ => ()⟩, ⟨oR3, fun _ => ()⟩, ⟨oR4, fun _ => ()⟩] ![2000, 1] (by decide) y
  simp only [List.mem_cons, List.not_mem_nil, or_false] at hp
  rcases hp with rfl | rfl | rfl | rfl | rfl
  · exact Or.inl hy
  · exact Or.inr (Or.inl hy)
  · exact Or.inr (Or.inr (Or.inl hy))
  · exact Or.inr (Or.inr (Or.inr (Or.inl hy)))
  · exact Or.inr (Or.inr (Or.inr (Or.inr hy)))
theorem outM_apart0 : Disjoint (outM.view.setOn oR0.set) ((outM.view.setOn oR1.set ∪ (outM.view.setOn oR2.set ∪ (outM.view.setOn oR3.set ∪ outM.view.setOn oR4.set)))) := by
  simp only [Finset.disjoint_union_right]
  exact ⟨sep_setOn _ _ _ (rect_apart _ _ 0 (by decide)), sep_setOn _ _ _ (rect_apart _ _ 0 (by decide)), sep_setOn _ _ _ (rect_apart _ _ 0 (by decide)), sep_setOn _ _ _ (rect_apart _ _ 0 (by decide))⟩
theorem outM_apart1 : Disjoint (outM.view.setOn oR1.set) ((outM.view.setOn oR2.set ∪ (outM.view.setOn oR3.set ∪ outM.view.setOn oR4.set))) := by
  simp only [Finset.disjoint_union_right]
  exact ⟨sep_setOn _ _ _ (rect_apart _ _ 0 (by decide)), sep_setOn _ _ _ (rect_apart _ _ 0 (by decide)), sep_setOn _ _ _ (rect_apart _ _ 0 (by decide))⟩
theorem outM_apart2 : Disjoint (outM.view.setOn oR2.set) ((outM.view.setOn oR3.set ∪ outM.view.setOn oR4.set)) := by
  simp only [Finset.disjoint_union_right]
  exact ⟨sep_setOn _ _ _ (rect_apart _ _ 0 (by decide)), sep_setOn _ _ _ (rect_apart _ _ 0 (by decide))⟩
theorem outM_apart3 : Disjoint (outM.view.setOn oR3.set) (outM.view.setOn oR4.set) := by
  simp only [Finset.disjoint_union_right]
  exact sep_setOn _ _ _ (rect_apart _ _ 0 (by decide))
/-- The whole of `outM` is its five row groups. -/
theorem outM_split (c : Dev nD) (f : Cts (F := F) c outM) :
    (held c outM f : sProp 𝕄) ⊣⊢ iprop(piece c outM oR0 f ∗ piece c outM oR1 f ∗ piece c outM oR2 f ∗ piece c outM oR3 f ∗ piece c outM oR4 f) :=
  split5 f outM_cover outM_apart3 outM_apart2 outM_apart1 outM_apart0

/-- The five row groups of `HM` cover it. -/
theorem HM_cover : HM.view.set = HM.view.setOn hR0.set ∪ (HM.view.setOn hR1.set ∪ (HM.view.setOn hR2.set ∪ (HM.view.setOn hR3.set ∪ HM.view.setOn hR4.set))) := by
  refine setOn_cover5 HM.view _ _ _ _ _ fun y => ?_
  obtain ⟨p, hp, hy⟩ := View.cover_of_tiled (Val := fun _ => Unit) (e := .f32)
    [⟨hR0, fun _ => ()⟩, ⟨hR1, fun _ => ()⟩, ⟨hR2, fun _ => ()⟩, ⟨hR3, fun _ => ()⟩, ⟨hR4, fun _ => ()⟩] ![2000, 128] (by decide) y
  simp only [List.mem_cons, List.not_mem_nil, or_false] at hp
  rcases hp with rfl | rfl | rfl | rfl | rfl
  · exact Or.inl hy
  · exact Or.inr (Or.inl hy)
  · exact Or.inr (Or.inr (Or.inl hy))
  · exact Or.inr (Or.inr (Or.inr (Or.inl hy)))
  · exact Or.inr (Or.inr (Or.inr (Or.inr hy)))
theorem HM_apart0 : Disjoint (HM.view.setOn hR0.set) ((HM.view.setOn hR1.set ∪ (HM.view.setOn hR2.set ∪ (HM.view.setOn hR3.set ∪ HM.view.setOn hR4.set)))) := by
  simp only [Finset.disjoint_union_right]
  exact ⟨sep_setOn _ _ _ (rect_apart _ _ 0 (by decide)), sep_setOn _ _ _ (rect_apart _ _ 0 (by decide)), sep_setOn _ _ _ (rect_apart _ _ 0 (by decide)), sep_setOn _ _ _ (rect_apart _ _ 0 (by decide))⟩
theorem HM_apart1 : Disjoint (HM.view.setOn hR1.set) ((HM.view.setOn hR2.set ∪ (HM.view.setOn hR3.set ∪ HM.view.setOn hR4.set))) := by
  simp only [Finset.disjoint_union_right]
  exact ⟨sep_setOn _ _ _ (rect_apart _ _ 0 (by decide)), sep_setOn _ _ _ (rect_apart _ _ 0 (by decide)), sep_setOn _ _ _ (rect_apart _ _ 0 (by decide))⟩
theorem HM_apart2 : Disjoint (HM.view.setOn hR2.set) ((HM.view.setOn hR3.set ∪ HM.view.setOn hR4.set)) := by
  simp only [Finset.disjoint_union_right]
  exact ⟨sep_setOn _ _ _ (rect_apart _ _ 0 (by decide)), sep_setOn _ _ _ (rect_apart _ _ 0 (by decide))⟩
theorem HM_apart3 : Disjoint (HM.view.setOn hR3.set) (HM.view.setOn hR4.set) := by
  simp only [Finset.disjoint_union_right]
  exact sep_setOn _ _ _ (rect_apart _ _ 0 (by decide))
/-- The whole of `HM` is its five row groups. -/
theorem HM_split (c : Dev nD) (f : Cts (F := F) c HM) :
    (held c HM f : sProp 𝕄) ⊣⊢ iprop(piece c HM hR0 f ∗ piece c HM hR1 f ∗ piece c HM hR2 f ∗ piece c HM hR3 f ∗ piece c HM hR4 f) :=
  split5 f HM_cover HM_apart3 HM_apart2 HM_apart1 HM_apart0

/-- The three slots of `xs` cover it. -/
theorem xsR_xs_cover : xs.view.set = xs.view.setOn xsR0.set ∪ (xs.view.setOn xsR1.set ∪ xs.view.setOn xsR2.set) := by
  refine setOn_cover3 xs.view _ _ _ fun y => ?_
  obtain ⟨p, hp, hy⟩ := View.cover_of_tiled (Val := fun _ => Unit) (e := .f32)
    [⟨xsR0, fun _ => ()⟩, ⟨xsR1, fun _ => ()⟩, ⟨xsR2, fun _ => ()⟩] ![1, 2000, 256] (by decide) y
  simp only [List.mem_cons, List.not_mem_nil, or_false] at hp
  rcases hp with rfl | rfl | rfl
  · exact Or.inl hy
  · exact Or.inr (Or.inl hy)
  · exact Or.inr (Or.inr hy)
theorem xsR_xs_apart0 : Disjoint (xs.view.setOn xsR0.set) (xs.view.setOn xsR1.set ∪ xs.view.setOn xsR2.set) := by
  simp only [Finset.disjoint_union_right]
  exact ⟨sep_setOn _ _ _ (rect_apart _ _ 0 (by decide)), sep_setOn _ _ _ (rect_apart _ _ 0 (by decide))⟩
theorem xsR_xs_apart1 : Disjoint (xs.view.setOn xsR1.set) (xs.view.setOn xsR2.set) := sep_setOn _ _ _ (rect_apart _ _ 0 (by decide))
/-- The whole of `xs` is its three slots. -/
theorem xs_split (c : Dev nD) (f : Cts (F := F) c xs) :
    (held c xs f : sProp 𝕄) ⊣⊢ iprop(piece c xs xsR0 f ∗ piece c xs xsR1 f ∗ piece c xs xsR2 f) :=
  split3 f xsR_xs_cover xsR_xs_apart1 xsR_xs_apart0
/-- The three slots of `xs`, whatever they hold, are the whole of it. -/
theorem xs_join (c : Dev nD) (f g h : Cts (F := F) c xs) :
    iprop(piece c xs xsR0 f ∗ piece c xs xsR1 g ∗ piece c xs xsR2 h) ⊢ iprop(∃ k, (held c xs k : sProp 𝕄)) :=
  join3 xsR_xs_cover xsR_xs_apart1 xsR_xs_apart0 f g h

/-- The three slots of `hs` cover it. -/
theorem hsR_hs_cover : hs.view.set = hs.view.setOn hsR0.set ∪ (hs.view.setOn hsR1.set ∪ hs.view.setOn hsR2.set) := by
  refine setOn_cover3 hs.view _ _ _ fun y => ?_
  obtain ⟨p, hp, hy⟩ := View.cover_of_tiled (Val := fun _ => Unit) (e := .f32)
    [⟨hsR0, fun _ => ()⟩, ⟨hsR1, fun _ => ()⟩, ⟨hsR2, fun _ => ()⟩] ![1, 2000, 128] (by decide) y
  simp only [List.mem_cons, List.not_mem_nil, or_false] at hp
  rcases hp with rfl | rfl | rfl
  · exact Or.inl hy
  · exact Or.inr (Or.inl hy)
  · exact Or.inr (Or.inr hy)
theorem hsR_hs_apart0 : Disjoint (hs.view.setOn hsR0.set) (hs.view.setOn hsR1.set ∪ hs.view.setOn hsR2.set) := by
  simp only [Finset.disjoint_union_right]
  exact ⟨sep_setOn _ _ _ (rect_apart _ _ 0 (by decide)), sep_setOn _ _ _ (rect_apart _ _ 0 (by decide))⟩
theorem hsR_hs_apart1 : Disjoint (hs.view.setOn hsR1.set) (hs.view.setOn hsR2.set) := sep_setOn _ _ _ (rect_apart _ _ 0 (by decide))
/-- The whole of `hs` is its three slots. -/
theorem hs_split (c : Dev nD) (f : Cts (F := F) c hs) :
    (held c hs f : sProp 𝕄) ⊣⊢ iprop(piece c hs hsR0 f ∗ piece c hs hsR1 f ∗ piece c hs hsR2 f) :=
  split3 f hsR_hs_cover hsR_hs_apart1 hsR_hs_apart0
/-- The three slots of `hs`, whatever they hold, are the whole of it. -/
theorem hs_join (c : Dev nD) (f g h : Cts (F := F) c hs) :
    iprop(piece c hs hsR0 f ∗ piece c hs hsR1 g ∗ piece c hs hsR2 h) ⊢ iprop(∃ k, (held c hs k : sProp 𝕄)) :=
  join3 hsR_hs_cover hsR_hs_apart1 hsR_hs_apart0 f g h

/-- The three slots of `Hs` cover it. -/
theorem hsR_Hs_cover : Hs.view.set = Hs.view.setOn hsR0.set ∪ (Hs.view.setOn hsR1.set ∪ Hs.view.setOn hsR2.set) := by
  refine setOn_cover3 Hs.view _ _ _ fun y => ?_
  obtain ⟨p, hp, hy⟩ := View.cover_of_tiled (Val := fun _ => Unit) (e := .f32)
    [⟨hsR0, fun _ => ()⟩, ⟨hsR1, fun _ => ()⟩, ⟨hsR2, fun _ => ()⟩] ![1, 2000, 128] (by decide) y
  simp only [List.mem_cons, List.not_mem_nil, or_false] at hp
  rcases hp with rfl | rfl | rfl
  · exact Or.inl hy
  · exact Or.inr (Or.inl hy)
  · exact Or.inr (Or.inr hy)
theorem hsR_Hs_apart0 : Disjoint (Hs.view.setOn hsR0.set) (Hs.view.setOn hsR1.set ∪ Hs.view.setOn hsR2.set) := by
  simp only [Finset.disjoint_union_right]
  exact ⟨sep_setOn _ _ _ (rect_apart _ _ 0 (by decide)), sep_setOn _ _ _ (rect_apart _ _ 0 (by decide))⟩
theorem hsR_Hs_apart1 : Disjoint (Hs.view.setOn hsR1.set) (Hs.view.setOn hsR2.set) := sep_setOn _ _ _ (rect_apart _ _ 0 (by decide))
/-- The whole of `Hs` is its three slots. -/
theorem Hs_split (c : Dev nD) (f : Cts (F := F) c Hs) :
    (held c Hs f : sProp 𝕄) ⊣⊢ iprop(piece c Hs hsR0 f ∗ piece c Hs hsR1 f ∗ piece c Hs hsR2 f) :=
  split3 f hsR_Hs_cover hsR_Hs_apart1 hsR_Hs_apart0
/-- The three slots of `Hs`, whatever they hold, are the whole of it. -/
theorem Hs_join (c : Dev nD) (f g h : Cts (F := F) c Hs) :
    iprop(piece c Hs hsR0 f ∗ piece c Hs hsR1 g ∗ piece c Hs hsR2 h) ⊢ iprop(∃ k, (held c Hs k : sProp 𝕄)) :=
  join3 hsR_Hs_cover hsR_Hs_apart1 hsR_Hs_apart0 f g h

/-- The three slots of `os` cover it. -/
theorem osR_os_cover : os.view.set = os.view.setOn osR0.set ∪ (os.view.setOn osR1.set ∪ os.view.setOn osR2.set) := by
  refine setOn_cover3 os.view _ _ _ fun y => ?_
  obtain ⟨p, hp, hy⟩ := View.cover_of_tiled (Val := fun _ => Unit) (e := .f32)
    [⟨osR0, fun _ => ()⟩, ⟨osR1, fun _ => ()⟩, ⟨osR2, fun _ => ()⟩] ![1, 2000, 1] (by decide) y
  simp only [List.mem_cons, List.not_mem_nil, or_false] at hp
  rcases hp with rfl | rfl | rfl
  · exact Or.inl hy
  · exact Or.inr (Or.inl hy)
  · exact Or.inr (Or.inr hy)
theorem osR_os_apart0 : Disjoint (os.view.setOn osR0.set) (os.view.setOn osR1.set ∪ os.view.setOn osR2.set) := by
  simp only [Finset.disjoint_union_right]
  exact ⟨sep_setOn _ _ _ (rect_apart _ _ 0 (by decide)), sep_setOn _ _ _ (rect_apart _ _ 0 (by decide))⟩
theorem osR_os_apart1 : Disjoint (os.view.setOn osR1.set) (os.view.setOn osR2.set) := sep_setOn _ _ _ (rect_apart _ _ 0 (by decide))
/-- The whole of `os` is its three slots. -/
theorem os_split (c : Dev nD) (f : Cts (F := F) c os) :
    (held c os f : sProp 𝕄) ⊣⊢ iprop(piece c os osR0 f ∗ piece c os osR1 f ∗ piece c os osR2 f) :=
  split3 f osR_os_cover osR_os_apart1 osR_os_apart0
/-- The three slots of `os`, whatever they hold, are the whole of it. -/
theorem os_join (c : Dev nD) (f g h : Cts (F := F) c os) :
    iprop(piece c os osR0 f ∗ piece c os osR1 g ∗ piece c os osR2 h) ⊢ iprop(∃ k, (held c os k : sProp 𝕄)) :=
  join3 osR_os_cover osR_os_apart1 osR_os_apart0 f g h

end Cert.KernelIdeal.Hand

end
-- ==== Proof.Cell.lean ====
module

public import proofs.«01_k».proof.Proof.Pieces
public import Idealize.ShloMosaic.Lib.Pipeline.Value

@[expose] public section

/-! The values of the body: the summed weights, the cell of the layer applied to a row group, and what the ring slots
give back. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Slots
variable {κ : Kind} {sp : Space} {s s' : Shape} {e : EltTy} {Val : EltTy → Type}

/-- A slot stored whole and then read through its squeezed view reads the stored value, its unit axis dropped. -/
theorem read_slot (M : Memref sig κ sp s e) (r : Rect s) (hr : ∀ a, r.stride a = 1) (hq : r.shape.Squeezes s')
    (hc : s'.ShapeCasts r.shape) (v : s'.Idx → Val e) (f : M.view.ty.Contents Val) (L : List (View.Piece Val s e)) :
    ((M.slice r hr).squeeze s' hq).view.read Val (M.view.writes Val f (⟨r, shapeCast r.shape v hc⟩ :: L)) = v := by
  have hc' : r.shape.ShapeCasts s' := hq.numel_eq
  rw [Memref.read_squeeze_slice M r hr hq hc']
  have h : M.view.readAt Val r.toLoadRect (M.view.writes Val f (⟨r, shapeCast r.shape v hc⟩ :: L)) = shapeCast r.shape v hc :=
    funext fun y => View.read_writes_cons_emb M.view f r _ L y
  rw [h]; exact shapeCast_shapeCast v hc hc'

/-- A slot filled through its squeezed view and then loaded whole is the filling value, once its unit axis is dropped. -/
theorem load_slot (M : Memref sig κ sp s e) (r : Rect s) (hr : ∀ a, r.stride a = 1) (hq : r.shape.Squeezes s')
    (hc : r.shape.ShapeCasts s') (d : s'.Idx → Val e) (g : M.view.ty.Contents Val) :
    shapeCast s' (M.view.readAt Val r.toLoadRect (((M.slice r hr).squeeze s' hq).view.write Val g d Finset.univ)) hc = d :=
  (Memref.read_squeeze_slice M r hr hq hc _).symm.trans (View.read_write_univ _ d)

end Slots

/-- Every two layers of one convolution's weights, summed and rounded: what multiplies both the node features and the
    hidden state, since no message passing takes place. -/
def gate (w : S2x1x384x128.Idx → Elt F .f32) : FVec F S384x128 .bf16 :=
  k0_pay4 (fun y => w ((Rect.unit (s := S2x1x384x128) ![0, 0, 0, 0] S1x1x384x128.size inb_S2x1x384x128_S1x1x384x128_0_0_0_0).toLoadRect.idx y))
    (fun y => w ((Rect.unit (s := S2x1x384x128) ![1, 0, 0, 0] S1x1x384x128.size inb_S2x1x384x128_S1x1x384x128_1_0_0_0).toLoadRect.idx y))

/-- The three gates' summed weights side by side, as the body stores them. -/
def gates (wz wr wh : S2x1x384x128.Idx → Elt F .f32) : S384x384.Idx → Elt F .bf16 :=
  wb.view.read (Elt F) (wb.view.writes (Elt F) wb.view.junk
    [⟨Rect.unit (s := S384x384) ![0, 256] S384x128.size inb_S384x384_S384x128_0_256, gate wh⟩,
     ⟨Rect.unit (s := S384x384) ![0, 128] S384x128.size inb_S384x384_S384x128_0_128, gate wr⟩,
     ⟨Rect.unit (s := S384x384) ![0, 0] S384x128.size inb_S384x384_S384x128_0_0, gate wz⟩])

/-- The rows of the summed weights that meet the first input. -/
def wX (g : S384x384.Idx → Elt F .bf16) : Vec F S256x384 .bf16 :=
  fun y => g ((Rect.unit (s := S384x384) ![0, 0] S256x384.size inb_S384x384_S256x384_0_0).toLoadRect.idx y)
/-- The rows that meet the hidden state, for the update and reset gates. -/
def wH (g : S384x384.Idx → Elt F .bf16) : Vec F S128x256 .bf16 :=
  fun y => g ((Rect.unit (s := S384x384) ![256, 0] S128x256.size inb_S384x384_S128x256_256_0).toLoadRect.idx y)
/-- The rows that meet the reset hidden state, for the candidate. -/
def wC (g : S384x384.Idx → Elt F .bf16) : Vec F S128x128 .bf16 :=
  fun y => g ((Rect.unit (s := S384x384) ![256, 256] S128x128.size inb_S384x384_S128x128_256_256).toLoadRect.idx y)

/-- The products of a row group of the first input with the weights. -/
def accX (x : FVec F S2000x256 .f32) (w : Vec F S256x384 .bf16) : FVec F S2000x384 .f32 :=
  matmul dot_S2000x256_S256x384_S2000x384_1_0_0_1_n_n none (truncf .bf16 x bitsLt_bf16_f32) w (constant S2000x384 .f32 0x00000000#32)
/-- The products of a row group of the hidden state with the weights. -/
def accH (h : FVec F S2000x128 .f32) (w : Vec F S128x256 .bf16) : FVec F S2000x256 .f32 :=
  matmul dot_S2000x128_S128x256_S2000x256_1_0_0_1_n_n none (truncf .bf16 h bitsLt_bf16_f32) w (constant S2000x256 .f32 0x00000000#32)

/-- The new hidden state of a row group. -/
def cellH (g : S384x384.Idx → Elt F .bf16) (bz br bh : Vec F S128 .f32) (x : FVec F S2000x256 .f32) (h : FVec F S2000x128 .f32) :
    FVec F S2000x128 .f32 := k0_pay9 h (accX x (wX g)) (accH h (wH g)) bz br bh (wC g)
/-- The prediction of a row group. -/
def cellO (g : S384x384.Idx → Elt F .bf16) (bz br bh : Vec F S128 .f32) (lw : Vec F S1x128 .f32) (lb : Vec F S1 .f32)
    (x : FVec F S2000x256 .f32) (h : FVec F S2000x128 .f32) : FVec F S2000x1 .f32 :=
  k0_pay11 h (accX x (wX g)) (accH h (wH g)) bz br bh (wC g) lw lb

section Full
variable {sp : Space} {κ : Kind} {e : EltTy} {Val : EltTy → Type}
/-- A load of all of a vector reads what it holds. -/
theorem load_S128 (M : Memref sig κ sp S128 e) (f : M.view.ty.Contents Val) :
    M.view.readAt Val (Rect.unit (s := S128) ![0] S128.size inb_S128_S128_0).toLoadRect f = M.view.read Val f := by
  funext y; rw [View.readAt_apply]; refine congrArg _ (funext fun a => Fin.ext ?_)
  fin_cases a; simp [LoadRect.idx, Rect.toLoadRect]
/-- The same for a row. -/
theorem load_S1x128 (M : Memref sig κ sp S1x128 e) (f : M.view.ty.Contents Val) :
    M.view.readAt Val (Rect.unit (s := S1x128) ![0, 0] S1x128.size inb_S1x128_S1x128_0_0).toLoadRect f = M.view.read Val f := by
  funext y; rw [View.readAt_apply]; refine congrArg _ (funext fun a => Fin.ext ?_)
  fin_cases a
  · have := (y 0).isLt; simp [LoadRect.idx, Rect.toLoadRect]; have h0 : (y 0).val < 1 := this; omega
  · simp [LoadRect.idx, Rect.toLoadRect]
/-- The same for a single element. -/
theorem load_S1 (M : Memref sig κ sp S1 e) (f : M.view.ty.Contents Val) :
    M.view.readAt Val (Rect.unit (s := S1) ![0] S1.size inb_S1_S1_0).toLoadRect f = M.view.read Val f := by
  funext y; rw [View.readAt_apply]; refine congrArg _ (funext fun a => Fin.ext ?_)
  fin_cases a
  have := (y 0).isLt; simp [LoadRect.idx, Rect.toLoadRect]; have h0 : (y 0).val < 1 := this; omega
end Full

/-- What a whole staged operand holds. -/
abbrev val {c : Dev nD} {sp : Space} {S : Shape} {e : EltTy} (M : Memref sig .tc sp S e) (f : Cts (F := F) c M) : S.Idx → Elt F e :=
  M.view.read (Elt F) f

end Cert.KernelIdeal.Hand

end
-- ==== Proof.Body.lean ====
module

public import proofs.«01_k».proof.Proof.Cell

@[expose] public section

/-! One run of the kernel's body: what it leaves in the ten groups of 2000 rows it sends out is the cell of the layer
applied to the same rows of the inputs, whatever the scratch held before; every buffer it was lent comes back. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A row group of a result holds the values `v` that were sent to it. -/
def sentAt (c : Dev nD) {sp : Space} {S : Shape} {e : EltTy} (M : Memref sig .tc sp S e) (R : Rect S) (f : Cts (F := F) c M)
    (v : R.shape.Idx → Elt F e) : sProp 𝕄 :=
  iprop(∃ p, piece c M R (M.view.writes (Elt F) f [⟨R, p⟩]) ∗ ⌜p = v⌝)

/-- What the body is lent: the eight staged operands, the two inputs and the two results in five row groups, the
    scratch in its slots, and its twelve semaphores at zero. -/
def lent (c : Dev nD) (arg2 : Memref sig .tc .vmem S2x1x384x128 .f32) (arg3 : Memref sig .tc .vmem S128 .f32) (arg4 : Memref sig .tc .vmem S2x1x384x128 .f32) (arg5 : Memref sig .tc .vmem S128 .f32) (arg6 : Memref sig .tc .vmem S2x1x384x128 .f32) (arg7 : Memref sig .tc .vmem S128 .f32) (arg8 : Memref sig .tc .vmem S1x128 .f32) (arg9 : Memref sig .tc .vmem S1 .f32) (f2 : Cts (F := F) c arg2) (f3 : Cts (F := F) c arg3) (f4 : Cts (F := F) c arg4) (f5 : Cts (F := F) c arg5) (f6 : Cts (F := F) c arg6) (f7 : Cts (F := F) c arg7) (f8 : Cts (F := F) c arg8) (f9 : Cts (F := F) c arg9) (fx : Cts (F := F) c xM) (fh : Cts (F := F) c hM) (fo : Cts (F := F) c outM) (fH : Cts (F := F) c HM) (sx : Cts (F := F) c xs) (sh : Cts (F := F) c hs) (sH : Cts (F := F) c Hs) (so : Cts (F := F) c os) (sw : Cts (F := F) c wb) : sProp 𝕄 :=
  iprop(held c arg2 f2 ∗ held c arg3 f3 ∗ held c arg4 f4 ∗ held c arg5 f5 ∗ held c arg6 f6 ∗ held c arg7 f7 ∗ held c arg8 f8 ∗ held c arg9 f9 ∗ piece c xM xR0 fx ∗ piece c xM xR1 fx ∗ piece c xM xR2 fx ∗ piece c xM xR3 fx ∗ piece c xM xR4 fx ∗ piece c hM hR0 fh ∗ piece c hM hR1 fh ∗ piece c hM hR2 fh ∗ piece c hM hR3 fh ∗ piece c hM hR4 fh ∗ piece c outM oR0 fo ∗ piece c outM oR1 fo ∗ piece c outM oR2 fo ∗ piece c outM oR3 fo ∗ piece c outM oR4 fo ∗ piece c HM hR0 fH ∗ piece c HM hR1 fH ∗ piece c HM hR2 fH ∗ piece c HM hR3 fH ∗ piece c HM hR4 fH ∗ piece c xs xsR0 sx ∗ piece c xs xsR1 sx ∗ piece c xs xsR2 sx ∗ piece c hs hsR0 sh ∗ piece c hs hsR1 sh ∗ piece c hs hsR2 sh ∗ piece c Hs hsR0 sH ∗ piece c Hs hsR1 sH ∗ piece c Hs hsR2 sH ∗ piece c os osR0 so ∗ piece c os osR1 so ∗ piece c os osR2 so ∗ held c wb sw ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0)

/-- What the body hands back: the same, with each row group of the results holding the cell of those rows. -/
def back (c : Dev nD) (arg2 : Memref sig .tc .vmem S2x1x384x128 .f32) (arg3 : Memref sig .tc .vmem S128 .f32) (arg4 : Memref sig .tc .vmem S2x1x384x128 .f32) (arg5 : Memref sig .tc .vmem S128 .f32) (arg6 : Memref sig .tc .vmem S2x1x384x128 .f32) (arg7 : Memref sig .tc .vmem S128 .f32) (arg8 : Memref sig .tc .vmem S1x128 .f32) (arg9 : Memref sig .tc .vmem S1 .f32) (f2 : Cts (F := F) c arg2) (f3 : Cts (F := F) c arg3) (f4 : Cts (F := F) c arg4) (f5 : Cts (F := F) c arg5) (f6 : Cts (F := F) c arg6) (f7 : Cts (F := F) c arg7) (f8 : Cts (F := F) c arg8) (f9 : Cts (F := F) c arg9) (fx : Cts (F := F) c xM) (fh : Cts (F := F) c hM) (fo : Cts (F := F) c outM) (fH : Cts (F := F) c HM) : sProp 𝕄 :=
  iprop(held c arg2 f2 ∗ held c arg3 f3 ∗ held c arg4 f4 ∗ held c arg5 f5 ∗ held c arg6 f6 ∗ held c arg7 f7 ∗ held c arg8 f8 ∗ held c arg9 f9 ∗ piece c xM xR0 fx ∗ piece c xM xR1 fx ∗ piece c xM xR2 fx ∗ piece c xM xR3 fx ∗ piece c xM xR4 fx ∗ piece c hM hR0 fh ∗ piece c hM hR1 fh ∗ piece c hM hR2 fh ∗ piece c hM hR3 fh ∗ piece c hM hR4 fh ∗ sentAt c outM oR0 fo (cellO (gates (val arg2 f2) (val arg4 f4) (val arg6 f6)) (val arg3 f3) (val arg5 f5) (val arg7 f7) (val arg8 f8) (val arg9 f9) (fun (j : S2000x256.Idx) => val xM fx (xR0.emb j)) (fun (j : S2000x128.Idx) => val hM fh (hR0.emb j))) ∗ sentAt c outM oR1 fo (cellO (gates (val arg2 f2) (val arg4 f4) (val arg6 f6)) (val arg3 f3) (val arg5 f5) (val arg7 f7) (val arg8 f8) (val arg9 f9) (fun (j : S2000x256.Idx) => val xM fx (xR1.emb j)) (fun (j : S2000x128.Idx) => val hM fh (hR1.emb j))) ∗ sentAt c outM oR2 fo (cellO (gates (val arg2 f2) (val arg4 f4) (val arg6 f6)) (val arg3 f3) (val arg5 f5) (val arg7 f7) (val arg8 f8) (val arg9 f9) (fun (j : S2000x256.Idx) => val xM fx (xR2.emb j)) (fun (j : S2000x128.Idx) => val hM fh (hR2.emb j))) ∗ sentAt c outM oR3 fo (cellO (gates (val arg2 f2) (val arg4 f4) (val arg6 f6)) (val arg3 f3) (val arg5 f5) (val arg7 f7) (val arg8 f8) (val arg9 f9) (fun (j : S2000x256.Idx) => val xM fx (xR3.emb j)) (fun (j : S2000x128.Idx) => val hM fh (hR3.emb j))) ∗ sentAt c outM oR4 fo (cellO (gates (val arg2 f2) (val arg4 f4) (val arg6 f6)) (val arg3 f3) (val arg5 f5) (val arg7 f7) (val arg8 f8) (val arg9 f9) (fun (j : S2000x256.Idx) => val xM fx (xR4.emb j)) (fun (j : S2000x128.Idx) => val hM fh (hR4.emb j))) ∗ sentAt c HM hR0 fH (cellH (gates (val arg2 f2) (val arg4 f4) (val arg6 f6)) (val arg3 f3) (val arg5 f5) (val arg7 f7) (fun (j : S2000x256.Idx) => val xM fx (xR0.emb j)) (fun (j : S2000x128.Idx) => val hM fh (hR0.emb j))) ∗ sentAt c HM hR1 fH (cellH (gates (val arg2 f2) (val arg4 f4) (val arg6 f6)) (val arg3 f3) (val arg5 f5) (val arg7 f7) (fun (j : S2000x256.Idx) => val xM fx (xR1.emb j)) (fun (j : S2000x128.Idx) => val hM fh (hR1.emb j))) ∗ sentAt c HM hR2 fH (cellH (gates (val arg2 f2) (val arg4 f4) (val arg6 f6)) (val arg3 f3) (val arg5 f5) (val arg7 f7) (fun (j : S2000x256.Idx) => val xM fx (xR2.emb j)) (fun (j : S2000x128.Idx) => val hM fh (hR2.emb j))) ∗ sentAt c HM hR3 fH (cellH (gates (val arg2 f2) (val arg4 f4) (val arg6 f6)) (val arg3 f3) (val arg5 f5) (val arg7 f7) (fun (j : S2000x256.Idx) => val xM fx (xR3.emb j)) (fun (j : S2000x128.Idx) => val hM fh (hR3.emb j))) ∗ sentAt c HM hR4 fH (cellH (gates (val arg2 f2) (val arg4 f4) (val arg6 f6)) (val arg3 f3) (val arg5 f5) (val arg7 f7) (fun (j : S2000x256.Idx) => val xM fx (xR4.emb j)) (fun (j : S2000x128.Idx) => val hM fh (hR4.emb j))) ∗ (∃ k, piece c xs xsR0 k) ∗ (∃ k, piece c xs xsR1 k) ∗ (∃ k, piece c xs xsR2 k) ∗ (∃ k, piece c hs hsR0 k) ∗ (∃ k, piece c hs hsR1 k) ∗ (∃ k, piece c hs hsR2 k) ∗ (∃ k, piece c Hs hsR0 k) ∗ (∃ k, piece c Hs hsR1 k) ∗ (∃ k, piece c Hs hsR2 k) ∗ (∃ k, piece c os osR0 k) ∗ (∃ k, piece c os osR1 k) ∗ (∃ k, piece c os osR2 k) ∗ (∃ k, held c wb k) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ (∃ W', owes (c : Thread nD τ) 0 W'))

set_option maxHeartbeats 0 in
set_option maxRecDepth 65536 in
/-- The body run whole. -/
theorem bodyRun (c : Dev nD) (arg2 : Memref sig .tc .vmem S2x1x384x128 .f32) (harg2 : arg2.IsWhole) (arg3 : Memref sig .tc .vmem S128 .f32) (harg3 : arg3.IsWhole) (arg4 : Memref sig .tc .vmem S2x1x384x128 .f32) (harg4 : arg4.IsWhole) (arg5 : Memref sig .tc .vmem S128 .f32) (harg5 : arg5.IsWhole) (arg6 : Memref sig .tc .vmem S2x1x384x128 .f32) (harg6 : arg6.IsWhole) (arg7 : Memref sig .tc .vmem S128 .f32) (harg7 : arg7.IsWhole) (arg8 : Memref sig .tc .vmem S1x128 .f32) (harg8 : arg8.IsWhole) (arg9 : Memref sig .tc .vmem S1 .f32) (harg9 : arg9.IsWhole) (f2 : Cts (F := F) c arg2) (f3 : Cts (F := F) c arg3) (f4 : Cts (F := F) c arg4) (f5 : Cts (F := F) c arg5) (f6 : Cts (F := F) c arg6) (f7 : Cts (F := F) c arg7) (f8 : Cts (F := F) c arg8) (f9 : Cts (F := F) c arg9) (fx : Cts (F := F) c xM) (fh : Cts (F := F) c hM) (fo : Cts (F := F) c outM) (fH : Cts (F := F) c HM) (sx : Cts (F := F) c xs) (sh : Cts (F := F) c hs) (sH : Cts (F := F) c Hs) (so : Cts (F := F) c os) (sw : Cts (F := F) c wb) (W : Waits sig Unit) (K : PUnit → sProp 𝕄) :
    iprop(lent c arg2 arg3 arg4 arg5 arg6 arg7 arg8 arg9 f2 f3 f4 f5 f6 f7 f8 f9 fx fh fo fH sx sh sH so sw ∗ owes (c : Thread nD τ) 0 W
          ∗ (back c arg2 arg3 arg4 arg5 arg6 arg7 arg8 arg9 f2 f3 f4 f5 f6 f7 f8 f9 fx fh fo fH -∗ K ⟨⟩))
      ⊢ wp frame (wpE (defs₀ (F := F)) Variants.none c none) Set.univ
          (cc0__cell_body (F := F) xM (Memref.isWhole_whole _) hM (Memref.isWhole_whole _) arg2 harg2 arg3 harg3 arg4 harg4 arg5 harg5 arg6 harg6 arg7 harg7 arg8 harg8 arg9 harg9 outM (Memref.isWhole_whole _) HM (Memref.isWhole_whole _) xs (Memref.isWhole_whole _) hs (Memref.isWhole_whole _) Hs (Memref.isWhole_whole _) os (Memref.isWhole_whole _) wb (Memref.isWhole_whole _) cc0_scratch5 cc0_scratch6 cc0_scratch7 cc0_scratch8) K := by
      unfold lent back sentAt
      simp only [cc0__cell_body_eq_skeleton]; unfold cc0__cell_body_skel
      iintro ⟨⟨HA2, HA3, HA4, HA5, HA6, HA7, HA8, HA9, Hx0, Hx1, Hx2, Hx3, Hx4, Hh0, Hh1, Hh2, Hh3, Hh4, Ho0, Ho1, Ho2, Ho3, Ho4, HH0, HH1, HH2, HH3, HH4, Sx0, Sx1, Sx2, Sh0, Sh1, Sh2, SH0, SH1, SH2, So0, So1, So2, SW, Q8, Q9, Q10, Q11, Q12, Q13, Q14, Q15, Q16, Q17, Q18, Q19⟩, HW, Hk⟩
      sl_exec
      sl_step
      iapply Hk
      isplitl [HA2]; · iexact HA2
      isplitl [HA3]; · iexact HA3
      isplitl [HA4]; · iexact HA4
      isplitl [HA5]; · iexact HA5
      isplitl [HA6]; · iexact HA6
      isplitl [HA7]; · iexact HA7
      isplitl [HA8]; · iexact HA8
      isplitl [HA9]; · iexact HA9
      isplitl [Hx0]; · iexact Hx0
      isplitl [Hx1]; · iexact Hx1
      isplitl [Hx2]; · iexact Hx2
      isplitl [Hx3]; · iexact Hx3
      isplitl [Hx4]; · iexact Hx4
      isplitl [Hh0]; · iexact Hh0
      isplitl [Hh1]; · iexact Hh1
      isplitl [Hh2]; · iexact Hh2
      isplitl [Hh3]; · iexact Hh3
      isplitl [Hh4]; · iexact Hh4
      isplitl [Ho0]
      · iexists _; isplitl [Ho0]; · iexact Ho0
        ipureintro
        rw [← load_slot xs xsR0 (fun _ => rfl) squeezes_S1x2000x256_S2000x256 shapeCasts_S1x2000x256_S2000x256 (fun (j : S2000x256.Idx) => val xM fx (xR0.emb j)) sx,
          ← load_slot hs hsR0 (fun _ => rfl) squeezes_S1x2000x128_S2000x128 shapeCasts_S1x2000x128_S2000x128 (fun (j : S2000x128.Idx) => val hM fh (hR0.emb j)) sh,
          ← (show _ = val arg3 f3 from load_S128 arg3 f3), ← (show _ = val arg5 f5 from load_S128 arg5 f5), ← (show _ = val arg7 f7 from load_S128 arg7 f7), ← (show _ = val arg8 f8 from load_S1x128 arg8 f8), ← (show _ = val arg9 f9 from load_S1 arg9 f9)]
        exact read_slot os osR0 _ _ _ _ _ _
      isplitl [Ho1]
      · iexists _; isplitl [Ho1]; · iexact Ho1
        ipureintro
        rw [← load_slot xs xsR1 (fun _ => rfl) squeezes_S1x2000x256_S2000x256 shapeCasts_S1x2000x256_S2000x256 (fun (j : S2000x256.Idx) => val xM fx (xR1.emb j)) sx,
          ← load_slot hs hsR1 (fun _ => rfl) squeezes_S1x2000x128_S2000x128 shapeCasts_S1x2000x128_S2000x128 (fun (j : S2000x128.Idx) => val hM fh (hR1.emb j)) sh,
          ← (show _ = val arg3 f3 from load_S128 arg3 f3), ← (show _ = val arg5 f5 from load_S128 arg5 f5), ← (show _ = val arg7 f7 from load_S128 arg7 f7), ← (show _ = val arg8 f8 from load_S1x128 arg8 f8), ← (show _ = val arg9 f9 from load_S1 arg9 f9)]
        exact read_slot os osR1 _ _ _ _ _ _
      isplitl [Ho2]
      · iexists _; isplitl [Ho2]; · iexact Ho2
        ipureintro
        rw [← load_slot xs xsR2 (fun _ => rfl) squeezes_S1x2000x256_S2000x256 shapeCasts_S1x2000x256_S2000x256 (fun (j : S2000x256.Idx) => val xM fx (xR2.emb j)) sx,
          ← load_slot hs hsR2 (fun _ => rfl) squeezes_S1x2000x128_S2000x128 shapeCasts_S1x2000x128_S2000x128 (fun (j : S2000x128.Idx) => val hM fh (hR2.emb j)) sh,
          ← (show _ = val arg3 f3 from load_S128 arg3 f3), ← (show _ = val arg5 f5 from load_S128 arg5 f5), ← (show _ = val arg7 f7 from load_S128 arg7 f7), ← (show _ = val arg8 f8 from load_S1x128 arg8 f8), ← (show _ = val arg9 f9 from load_S1 arg9 f9)]
        exact read_slot os osR2 _ _ _ _ _ _
      isplitl [Ho3]
      · iexists _; isplitl [Ho3]; · iexact Ho3
        ipureintro
        rw [← load_slot xs xsR0 (fun _ => rfl) squeezes_S1x2000x256_S2000x256 shapeCasts_S1x2000x256_S2000x256 (fun (j : S2000x256.Idx) => val xM fx (xR3.emb j)) ((((xs.slice xsR0 (fun _ => rfl)).squeeze S2000x256 squeezes_S1x2000x256_S2000x256).view.write (Elt F) sx (fun (j : S2000x256.Idx) => val xM fx (xR0.emb j)) Finset.univ)),
          ← load_slot hs hsR0 (fun _ => rfl) squeezes_S1x2000x128_S2000x128 shapeCasts_S1x2000x128_S2000x128 (fun (j : S2000x128.Idx) => val hM fh (hR3.emb j)) ((((hs.slice hsR0 (fun _ => rfl)).squeeze S2000x128 squeezes_S1x2000x128_S2000x128).view.write (Elt F) sh (fun (j : S2000x128.Idx) => val hM fh (hR0.emb j)) Finset.univ)),
          ← (show _ = val arg3 f3 from load_S128 arg3 f3), ← (show _ = val arg5 f5 from load_S128 arg5 f5), ← (show _ = val arg7 f7 from load_S128 arg7 f7), ← (show _ = val arg8 f8 from load_S1x128 arg8 f8), ← (show _ = val arg9 f9 from load_S1 arg9 f9)]
        exact read_slot os osR0 _ _ _ _ _ _
      isplitl [Ho4]
      · iexists _; isplitl [Ho4]; · iexact Ho4
        ipureintro
        rw [← load_slot xs xsR1 (fun _ => rfl) squeezes_S1x2000x256_S2000x256 shapeCasts_S1x2000x256_S2000x256 (fun (j : S2000x256.Idx) => val xM fx (xR4.emb j)) ((((xs.slice xsR1 (fun _ => rfl)).squeeze S2000x256 squeezes_S1x2000x256_S2000x256).view.write (Elt F) sx (fun (j : S2000x256.Idx) => val xM fx (xR1.emb j)) Finset.univ)),
          ← load_slot hs hsR1 (fun _ => rfl) squeezes_S1x2000x128_S2000x128 shapeCasts_S1x2000x128_S2000x128 (fun (j : S2000x128.Idx) => val hM fh (hR4.emb j)) ((((hs.slice hsR1 (fun _ => rfl)).squeeze S2000x128 squeezes_S1x2000x128_S2000x128).view.write (Elt F) sh (fun (j : S2000x128.Idx) => val hM fh (hR1.emb j)) Finset.univ)),
          ← (show _ = val arg3 f3 from load_S128 arg3 f3), ← (show _ = val arg5 f5 from load_S128 arg5 f5), ← (show _ = val arg7 f7 from load_S128 arg7 f7), ← (show _ = val arg8 f8 from load_S1x128 arg8 f8), ← (show _ = val arg9 f9 from load_S1 arg9 f9)]
        exact read_slot os osR1 _ _ _ _ _ _
      isplitl [HH0]
      · iexists _; isplitl [HH0]; · iexact HH0
        ipureintro
        rw [← load_slot xs xsR0 (fun _ => rfl) squeezes_S1x2000x256_S2000x256 shapeCasts_S1x2000x256_S2000x256 (fun (j : S2000x256.Idx) => val xM fx (xR0.emb j)) sx,
          ← load_slot hs hsR0 (fun _ => rfl) squeezes_S1x2000x128_S2000x128 shapeCasts_S1x2000x128_S2000x128 (fun (j : S2000x128.Idx) => val hM fh (hR0.emb j)) sh,
          ← (show _ = val arg3 f3 from load_S128 arg3 f3), ← (show _ = val arg5 f5 from load_S128 arg5 f5), ← (show _ = val arg7 f7 from load_S128 arg7 f7)]
        exact read_slot Hs hsR0 _ _ _ _ _ _
      isplitl [HH1]
      · iexists _; isplitl [HH1]; · iexact HH1
        ipureintro
        rw [← load_slot xs xsR1 (fun _ => rfl) squeezes_S1x2000x256_S2000x256 shapeCasts_S1x2000x256_S2000x256 (fun (j : S2000x256.Idx) => val xM fx (xR1.emb j)) sx,
          ← load_slot hs hsR1 (fun _ => rfl) squeezes_S1x2000x128_S2000x128 shapeCasts_S1x2000x128_S2000x128 (fun (j : S2000x128.Idx) => val hM fh (hR1.emb j)) sh,
          ← (show _ = val arg3 f3 from load_S128 arg3 f3), ← (show _ = val arg5 f5 from load_S128 arg5 f5), ← (show _ = val arg7 f7 from load_S128 arg7 f7)]
        exact read_slot Hs hsR1 _ _ _ _ _ _
      isplitl [HH2]
      · iexists _; isplitl [HH2]; · iexact HH2
        ipureintro
        rw [← load_slot xs xsR2 (fun _ => rfl) squeezes_S1x2000x256_S2000x256 shapeCasts_S1x2000x256_S2000x256 (fun (j : S2000x256.Idx) => val xM fx (xR2.emb j)) sx,
          ← load_slot hs hsR2 (fun _ => rfl) squeezes_S1x2000x128_S2000x128 shapeCasts_S1x2000x128_S2000x128 (fun (j : S2000x128.Idx) => val hM fh (hR2.emb j)) sh,
          ← (show _ = val arg3 f3 from load_S128 arg3 f3), ← (show _ = val arg5 f5 from load_S128 arg5 f5), ← (show _ = val arg7 f7 from load_S128 arg7 f7)]
        exact read_slot Hs hsR2 _ _ _ _ _ _
      isplitl [HH3]
      · iexists _; isplitl [HH3]; · iexact HH3
        ipureintro
        rw [← load_slot xs xsR0 (fun _ => rfl) squeezes_S1x2000x256_S2000x256 shapeCasts_S1x2000x256_S2000x256 (fun (j : S2000x256.Idx) => val xM fx (xR3.emb j)) ((((xs.slice xsR0 (fun _ => rfl)).squeeze S2000x256 squeezes_S1x2000x256_S2000x256).view.write (Elt F) sx (fun (j : S2000x256.Idx) => val xM fx (xR0.emb j)) Finset.univ)),
          ← load_slot hs hsR0 (fun _ => rfl) squeezes_S1x2000x128_S2000x128 shapeCasts_S1x2000x128_S2000x128 (fun (j : S2000x128.Idx) => val hM fh (hR3.emb j)) ((((hs.slice hsR0 (fun _ => rfl)).squeeze S2000x128 squeezes_S1x2000x128_S2000x128).view.write (Elt F) sh (fun (j : S2000x128.Idx) => val hM fh (hR0.emb j)) Finset.univ)),
          ← (show _ = val arg3 f3 from load_S128 arg3 f3), ← (show _ = val arg5 f5 from load_S128 arg5 f5), ← (show _ = val arg7 f7 from load_S128 arg7 f7)]
        exact read_slot Hs hsR0 _ _ _ _ _ _
      isplitl [HH4]
      · iexists _; isplitl [HH4]; · iexact HH4
        ipureintro
        rw [← load_slot xs xsR1 (fun _ => rfl) squeezes_S1x2000x256_S2000x256 shapeCasts_S1x2000x256_S2000x256 (fun (j : S2000x256.Idx) => val xM fx (xR4.emb j)) ((((xs.slice xsR1 (fun _ => rfl)).squeeze S2000x256 squeezes_S1x2000x256_S2000x256).view.write (Elt F) sx (fun (j : S2000x256.Idx) => val xM fx (xR1.emb j)) Finset.univ)),
          ← load_slot hs hsR1 (fun _ => rfl) squeezes_S1x2000x128_S2000x128 shapeCasts_S1x2000x128_S2000x128 (fun (j : S2000x128.Idx) => val hM fh (hR4.emb j)) ((((hs.slice hsR1 (fun _ => rfl)).squeeze S2000x128 squeezes_S1x2000x128_S2000x128).view.write (Elt F) sh (fun (j : S2000x128.Idx) => val hM fh (hR1.emb j)) Finset.univ)),
          ← (show _ = val arg3 f3 from load_S128 arg3 f3), ← (show _ = val arg5 f5 from load_S128 arg5 f5), ← (show _ = val arg7 f7 from load_S128 arg7 f7)]
        exact read_slot Hs hsR1 _ _ _ _ _ _
      isplitl [Sx0]; · iexists _; iexact Sx0
      isplitl [Sx1]; · iexists _; iexact Sx1
      isplitl [Sx2]; · iexists _; iexact Sx2
      isplitl [Sh0]; · iexists _; iexact Sh0
      isplitl [Sh1]; · iexists _; iexact Sh1
      isplitl [Sh2]; · iexists _; iexact Sh2
      isplitl [SH0]; · iexists _; iexact SH0
      isplitl [SH1]; · iexists _; iexact SH1
      isplitl [SH2]; · iexists _; iexact SH2
      isplitl [So0]; · iexists _; iexact So0
      isplitl [So1]; · iexists _; iexact So1
      isplitl [So2]; · iexists _; iexact So2
      isplitl [SW]; · iexists _; iexact SW
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      isplitl [Q15]; · iexact Q15
      isplitl [Q16]; · iexact Q16
      isplitl [Q17]; · iexact Q17
      isplitl [Q18]; · iexact Q18
      isplitl [Q19]; · iexact Q19
      iexists _; iexact HW

end Cert.KernelIdeal.Hand

end
-- ==== Proof.Blocks.lean ====
module

public import proofs.«01_k».proof.Proof.Body
public import Idealize.ShloMosaic.Lib.Pipeline.ValueKit.Geometry
public import Idealize.ShloMosaic.Lib.ValueIdxCore

@[expose] public section

/-! What the two result arrays hold after the kernel, row by row, and that five row groups sent out are the whole array. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx
variable (m : (ℓ : Loc nD τ sig) → Buf (Elt F) ℓ)

/-- Row group `i` of the first input. -/
abbrev xR (i : Fin 5) : Rect S10000x256 := Rect.unit (s := S10000x256) ![2000 * i.val, 0] S2000x256.size
  (fun a => by fin_cases i <;> revert a <;> decide)
/-- Row group `i` of the hidden state. -/
abbrev hR (i : Fin 5) : Rect S10000x128 := Rect.unit (s := S10000x128) ![2000 * i.val, 0] S2000x128.size
  (fun a => by fin_cases i <;> revert a <;> decide)
/-- Row group `i` of the prediction. -/
abbrev oR (i : Fin 5) : Rect S10000x1 := Rect.unit (s := S10000x1) ![2000 * i.val, 0] S2000x1.size
  (fun a => by fin_cases i <;> revert a <;> decide)

/-- The gates' weights, from the memory. -/
def wts (c : Dev nD) : S384x384.Idx → Elt F .bf16 :=
  gates (m ((c : Thread nD τ).loc main_arg4)) (m ((c : Thread nD τ).loc main_arg6)) (m ((c : Thread nD τ).loc main_arg8))
/-- The first input's row group `i`. -/
def xRows (c : Dev nD) (i : Fin 5) : FVec F S2000x256 .f32 := fun (j : S2000x256.Idx) => m ((c : Thread nD τ).loc main_arg0) ((xR i).emb j)
/-- The hidden state's row group `i`. -/
def hRows (c : Dev nD) (i : Fin 5) : FVec F S2000x128 .f32 := fun (j : S2000x128.Idx) => m ((c : Thread nD τ).loc main_arg3) ((hR i).emb j)
/-- The new hidden state of row group `i`. -/
def blockH (c : Dev nD) (i : Fin 5) : FVec F S2000x128 .f32 :=
  cellH (wts m c) (m ((c : Thread nD τ).loc main_arg5)) (m ((c : Thread nD τ).loc main_arg7)) (m ((c : Thread nD τ).loc main_arg9)) (xRows m c i) (hRows m c i)
/-- The prediction of row group `i`. -/
def blockO (c : Dev nD) (i : Fin 5) : FVec F S2000x1 .f32 :=
  cellO (wts m c) (m ((c : Thread nD τ).loc main_arg5)) (m ((c : Thread nD τ).loc main_arg7)) (m ((c : Thread nD τ).loc main_arg9))
    (m ((c : Thread nD τ).loc main_arg10)) (m ((c : Thread nD τ).loc main_arg11)) (xRows m c i) (hRows m c i)

/-- The new hidden state, whole: row `y 0` is row `y 0 % 2000` of group `y 0 / 2000`. -/
def newH (c : Dev nD) : S10000x128.Idx → Elt F .f32 := fun y =>
  blockH m c ⟨(y 0).val / 2000, by have : (y 0).val < 10000 := (y 0).isLt; omega⟩
    (ix2 (n0 := 2000) (n1 := 128) ⟨(y 0).val % 2000, Nat.mod_lt _ (by decide)⟩ (y 1))
/-- The prediction, whole. -/
def newO (c : Dev nD) : S10000x1.Idx → Elt F .f32 := fun y =>
  blockO m c ⟨(y 0).val / 2000, by have : (y 0).val < 10000 := (y 0).isLt; omega⟩
    (ix2 (n0 := 2000) (n1 := 1) ⟨(y 0).val % 2000, Nat.mod_lt _ (by decide)⟩ (y 1))

/-- The group and the row within it, recovered from the row's number. -/
theorem row_split (i : Fin 5) (j : Fin 2000) : (2000 * i.val + j.val) / 2000 = i.val ∧ (2000 * i.val + j.val) % 2000 = j.val := by
  have := j.isLt; omega

/-- Row group `i` of the new hidden state is what was computed for it. -/
theorem newH_emb (c : Dev nD) (i : Fin 5) (j : S2000x128.Idx) : newH m c ((hR i).emb j) = blockH m c i j := by
  have h0 : ((hR i).emb j 0).val = 2000 * i.val + (j 0).val := ValueKit.rect_emb_unit_val (s := S10000x128) ![2000 * i.val, 0] S2000x128.size _ j 0
  have h1 : ((hR i).emb j 1).val = 0 + (j 1).val := ValueKit.rect_emb_unit_val (s := S10000x128) ![2000 * i.val, 0] S2000x128.size _ j 1
  obtain ⟨hd, hm⟩ := row_split i (j 0)
  unfold newH
  refine congr (congrArg (blockH m c) (Fin.ext ?_)) (funext fun a => ?_)
  · show ((hR i).emb j 0).val / 2000 = _; rw [h0]; exact hd
  · match a with
    | ⟨0, _⟩ => exact Fin.ext (by show ((hR i).emb j 0).val % 2000 = _; rw [h0]; exact hm)
    | ⟨1, _⟩ => exact Fin.ext (h1.trans (Nat.zero_add _))
/-- Row group `i` of the prediction is what was computed for it. -/
theorem newO_emb (c : Dev nD) (i : Fin 5) (j : S2000x1.Idx) : newO m c ((oR i).emb j) = blockO m c i j := by
  have h0 : ((oR i).emb j 0).val = 2000 * i.val + (j 0).val := ValueKit.rect_emb_unit_val (s := S10000x1) ![2000 * i.val, 0] S2000x1.size _ j 0
  have h1 : ((oR i).emb j 1).val = 0 + (j 1).val := ValueKit.rect_emb_unit_val (s := S10000x1) ![2000 * i.val, 0] S2000x1.size _ j 1
  obtain ⟨hd, hm⟩ := row_split i (j 0)
  unfold newO
  refine congr (congrArg (blockO m c) (Fin.ext ?_)) (funext fun a => ?_)
  · show ((oR i).emb j 0).val / 2000 = _; rw [h0]; exact hd
  · match a with
    | ⟨0, _⟩ => exact Fin.ext (by show ((oR i).emb j 0).val % 2000 = _; rw [h0]; exact hm)
    | ⟨1, _⟩ => exact Fin.ext (h1.trans (Nat.zero_add _))

/-- A row group that was sent values the contents `G` show there is held at `G`. -/
theorem sent_piece (c : Dev nD) {sp : Space} {S : Shape} {e : EltTy} (M : Memref sig .tc sp S e) (R : Rect S) (f : Cts (F := F) c M)
    (v : R.shape.Idx → Elt F e) (G : Cts (F := F) c M) (hG : ∀ j, M.view.read (Elt F) G (R.emb j) = v j) :
    sentAt c M R f v ⊢ (piece c M R G : sProp 𝕄) := by
  unfold sentAt
  iintro ⟨%p, H, %hp⟩
  subst hp
  have h : (piece c M R (M.view.writes (Elt F) f [⟨R, p⟩]) : sProp 𝕄) = piece c M R G := pointsTo_congr fun i hi => by
    obtain ⟨y, hy, rfl⟩ := Finset.mem_map.1 hi
    choose k hk he using R.toLoadRect.mem_set.1 hy
    obtain rfl : y = R.emb (fun a => ⟨k a, hk a⟩) := funext fun a => Fin.ext (he a)
    exact (_root_.cast_inj (congrArg (Elt F) M.view.elt_eq)).1 ((View.read_writes_cons_emb M.view f R p [] _).trans (hG _).symm)
  iapply (show (piece c M R (M.view.writes (Elt F) f [⟨R, p⟩]) : sProp 𝕄) ⊢ piece c M R G from h ▸ .rfl)
  iexact H

end Cert.KernelIdeal.Hand

end
-- ==== Proof.Launch.lean ====
module

public import proofs.«01_k».proof.Proof.Blocks
public import proofs.«01_k».proof.Proof.Gen.KernelIdeal.Frame

@[expose] public section

/-! The kernel's launch: from any memory it ends with the two result arrays at the values of `Blocks`, every argument
as it was and every counter at zero. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem launchMain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The staging buffer of window 0. -/
abbrev ms0 (t : Fin cfg0.N) : Memref sig .tc .vmem S2x1x384x128 .f32 := win0_0.stage (cfg0.slots t 0)
/-- The staging buffer of window 1. -/
abbrev ms1 (t : Fin cfg0.N) : Memref sig .tc .vmem S128 .f32 := win0_1.stage (cfg0.slots t 1)
/-- The staging buffer of window 2. -/
abbrev ms2 (t : Fin cfg0.N) : Memref sig .tc .vmem S2x1x384x128 .f32 := win0_2.stage (cfg0.slots t 2)
/-- The staging buffer of window 3. -/
abbrev ms3 (t : Fin cfg0.N) : Memref sig .tc .vmem S128 .f32 := win0_3.stage (cfg0.slots t 3)
/-- The staging buffer of window 4. -/
abbrev ms4 (t : Fin cfg0.N) : Memref sig .tc .vmem S2x1x384x128 .f32 := win0_4.stage (cfg0.slots t 4)
/-- The staging buffer of window 5. -/
abbrev ms5 (t : Fin cfg0.N) : Memref sig .tc .vmem S128 .f32 := win0_5.stage (cfg0.slots t 5)
/-- The staging buffer of window 6. -/
abbrev ms6 (t : Fin cfg0.N) : Memref sig .tc .vmem S1x128 .f32 := win0_6.stage (cfg0.slots t 6)
/-- The staging buffer of window 7. -/
abbrev ms7 (t : Fin cfg0.N) : Memref sig .tc .vmem S1 .f32 := win0_7.stage (cfg0.slots t 7)

/-- The body's own semaphores. -/
abbrev osem0 : Fin 12 → SemLoc sig := fun j => (![SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19] : Fin 12 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) := by
  rw [Pipeline.ownSems0_eq_of_list c osem0 [0, 1, 2, 3, 4, 5, 6, 7, 8, 9, 10, 11] (by decide) (by decide)]; rfl
/-- The arrays the body's transfers read. -/
def H0 : Finset (Ref sig .tc) := {main_arg0, main_arg3}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_arg0) ↦{fullShare} V m c main_arg0) ∗ ((c : Thread nD τ).loc main_arg3) ↦{fullShare} V m c main_arg3) := by
  rw [BI.bigSep_eq_bigSepL_of_eq [main_arg0, main_arg3] (by decide) (by decide)]; rfl
/-- The arrays the body's transfers write. -/
def R0 : Finset (Ref sig .tc) := {main_v0_0, main_v0_1}
theorem R0_sub : R0 ⊆ Pipeline.restRefs sig spec0 \ H0 := by decide
theorem routed0_eq (c : Dev nD) (W : (b : Ref sig .tc) → Buf (Elt F) ((c : Thread nD τ).loc b)) :
    (Pipeline.routed R0 c W : sProp 𝕄)
      = iprop((((c : Thread nD τ).loc main_v0_0) ↦{fullShare} W main_v0_0) ∗ ((c : Thread nD τ).loc main_v0_1) ↦{fullShare} W main_v0_1) := by
  unfold Pipeline.routed; rw [BI.bigSep_eq_bigSepL_of_eq [main_v0_0, main_v0_1] (by decide) (by decide)]; rfl

/-- The contents after the launch: the two results at their values. -/
def G (c : Dev nD) : (b : Ref sig .tc) → Buf (Elt F) ((c : Thread nD τ).loc b) :=
  Function.update (Function.update (V m c) main_v0_0 (newO m c)) main_v0_1 (newH m c)
theorem G_H (c : Dev nD) : G m c main_v0_1 = newH m c := Function.update_self ..
theorem G_O (c : Dev nD) : G m c main_v0_0 = newO m c :=
  (Function.update_of_ne (show main_v0_0 ≠ main_v0_1 by decide) ..).trans (Function.update_self ..)

/-- The buffers the body works on beside the staged operands, with the results at `W`. -/
def around (c : Dev nD) (fo : Cts (F := F) c outM) (fH : Cts (F := F) c HM) : sProp 𝕄 :=
  iprop(((∃ f, held c xs f) ∗ (∃ f, held c hs f) ∗ (∃ f, held c Hs f) ∗ (∃ f, held c os f) ∗ (∃ f, held c wb f))
    ∗ (∃ r, prngReg c r) ∗ (semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0)
    ∗ (held c xM (V m c main_arg0) ∗ held c hM (V m c main_arg3)) ∗ (held c outM fo ∗ held c HM fH))
theorem around_eq (c : Dev nD) (W : (c : Dev nD) → (b : Ref sig .tc) → Buf (Elt F) ((c : Thread nD τ).loc b)) :
    (Pipeline.ΦDRG osem0 spec0 H0 R0 (V m) W c : sProp 𝕄) = around m c (W c main_v0_0) (W c main_v0_1) := by
  rw [Pipeline.ΦDRG_eq, scopedRest0_eq, ownSems00_eq, hbmPts0_eq, routed0_eq]
  unfold around
  simp only [held, Memref.view_whole, View.set_whole]; try rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ t := if t.val = 0 then Pipeline.ΦDRG osem0 spec0 H0 R0 (V m) (V m) c else Pipeline.ΦDRG osem0 spec0 H0 R0 (V m) (G m) c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem iblk0 (c : Dev nD) (t : Fin cfg0.N) : iblk m c 0 t = m ((c : Thread nD τ).loc main_arg4) := by
  obtain rfl := fin_N0 t
  refine funext fun (y : S2x1x384x128.Idx) => ?_
  show m ((c : Thread nD τ).loc main_arg4) _ = m ((c : Thread nD τ).loc main_arg4) y
  refine congrArg (m _) (funext fun a => Fin.ext ?_)
  match a with
  | ⟨0, _⟩ => exact (show 0 + 1 * (y 0).val = (y 0).val by omega)
  | ⟨1, _⟩ => exact (show 0 + 1 * (y 1).val = (y 1).val by omega)
  | ⟨2, _⟩ => exact (show 0 + 1 * (y 2).val = (y 2).val by omega)
  | ⟨3, _⟩ => exact (show 0 + 1 * (y 3).val = (y 3).val by omega)
theorem iblk1 (c : Dev nD) (t : Fin cfg0.N) : iblk m c 1 t = m ((c : Thread nD τ).loc main_arg5) := by
  obtain rfl := fin_N0 t
  refine funext fun (y : S128.Idx) => ?_
  show m ((c : Thread nD τ).loc main_arg5) _ = m ((c : Thread nD τ).loc main_arg5) y
  refine congrArg (m _) (funext fun a => Fin.ext ?_)
  match a with
  | ⟨0, _⟩ => exact (show 0 + 1 * (y 0).val = (y 0).val by omega)
theorem iblk2 (c : Dev nD) (t : Fin cfg0.N) : iblk m c 2 t = m ((c : Thread nD τ).loc main_arg6) := by
  obtain rfl := fin_N0 t
  refine funext fun (y : S2x1x384x128.Idx) => ?_
  show m ((c : Thread nD τ).loc main_arg6) _ = m ((c : Thread nD τ).loc main_arg6) y
  refine congrArg (m _) (funext fun a => Fin.ext ?_)
  match a with
  | ⟨0, _⟩ => exact (show 0 + 1 * (y 0).val = (y 0).val by omega)
  | ⟨1, _⟩ => exact (show 0 + 1 * (y 1).val = (y 1).val by omega)
  | ⟨2, _⟩ => exact (show 0 + 1 * (y 2).val = (y 2).val by omega)
  | ⟨3, _⟩ => exact (show 0 + 1 * (y 3).val = (y 3).val by omega)
theorem iblk3 (c : Dev nD) (t : Fin cfg0.N) : iblk m c 3 t = m ((c : Thread nD τ).loc main_arg7) := by
  obtain rfl := fin_N0 t
  refine funext fun (y : S128.Idx) => ?_
  show m ((c : Thread nD τ).loc main_arg7) _ = m ((c : Thread nD τ).loc main_arg7) y
  refine congrArg (m _) (funext fun a => Fin.ext ?_)
  match a with
  | ⟨0, _⟩ => exact (show 0 + 1 * (y 0).val = (y 0).val by omega)
theorem iblk4 (c : Dev nD) (t : Fin cfg0.N) : iblk m c 4 t = m ((c : Thread nD τ).loc main_arg8) := by
  obtain rfl := fin_N0 t
  refine funext fun (y : S2x1x384x128.Idx) => ?_
  show m ((c : Thread nD τ).loc main_arg8) _ = m ((c : Thread nD τ).loc main_arg8) y
  refine congrArg (m _) (funext fun a => Fin.ext ?_)
  match a with
  | ⟨0, _⟩ => exact (show 0 + 1 * (y 0).val = (y 0).val by omega)
  | ⟨1, _⟩ => exact (show 0 + 1 * (y 1).val = (y 1).val by omega)
  | ⟨2, _⟩ => exact (show 0 + 1 * (y 2).val = (y 2).val by omega)
  | ⟨3, _⟩ => exact (show 0 + 1 * (y 3).val = (y 3).val by omega)
theorem iblk5 (c : Dev nD) (t : Fin cfg0.N) : iblk m c 5 t = m ((c : Thread nD τ).loc main_arg9) := by
  obtain rfl := fin_N0 t
  refine funext fun (y : S128.Idx) => ?_
  show m ((c : Thread nD τ).loc main_arg9) _ = m ((c : Thread nD τ).loc main_arg9) y
  refine congrArg (m _) (funext fun a => Fin.ext ?_)
  match a with
  | ⟨0, _⟩ => exact (show 0 + 1 * (y 0).val = (y 0).val by omega)
theorem iblk6 (c : Dev nD) (t : Fin cfg0.N) : iblk m c 6 t = m ((c : Thread nD τ).loc main_arg10) := by
  obtain rfl := fin_N0 t
  refine funext fun (y : S1x128.Idx) => ?_
  show m ((c : Thread nD τ).loc main_arg10) _ = m ((c : Thread nD τ).loc main_arg10) y
  refine congrArg (m _) (funext fun a => Fin.ext ?_)
  match a with
  | ⟨0, _⟩ => exact (show 0 + 1 * (y 0).val = (y 0).val by omega)
  | ⟨1, _⟩ => exact (show 0 + 1 * (y 1).val = (y 1).val by omega)
theorem iblk7 (c : Dev nD) (t : Fin cfg0.N) : iblk m c 7 t = m ((c : Thread nD τ).loc main_arg11) := by
  obtain rfl := fin_N0 t
  refine funext fun (y : S1.Idx) => ?_
  show m ((c : Thread nD τ).loc main_arg11) _ = m ((c : Thread nD τ).loc main_arg11) y
  refine congrArg (m _) (funext fun a => Fin.ext ?_)
  match a with
  | ⟨0, _⟩ => exact (show 0 + 1 * (y 0).val = (y 0).val by omega)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

theorem Phi_first (c : Dev nD) (t : Fin cfg0.N) : (dats m 0 c).Φ t.castSucc = around m c (V m c main_v0_0) (V m c main_v0_1) :=
  (if_pos (by obtain rfl := fin_N0 t; rfl)).trans (around_eq m c (V m))
theorem Phi_last (c : Dev nD) (t : Fin cfg0.N) : (dats m 0 c).Φ t.succ = around m c (newO m c) (newH m c) :=
  (show (if t.succ.val = 0 then Pipeline.ΦDRG osem0 spec0 H0 R0 (V m) (V m) c else Pipeline.ΦDRG osem0 spec0 H0 R0 (V m) (G m) c) = Pipeline.ΦDRG osem0 spec0 H0 R0 (V m) (G m) c from if_neg (Nat.succ_ne_zero t.val)).trans ((around_eq m c (G m)).trans (by rw [G_H, G_O]))

/-- The results' row groups, sent the values of the body's run, are the two results whole. -/
theorem gather (c : Dev nD) (fo : Cts (F := F) c outM) (fH : Cts (F := F) c HM) :
    (iprop(sentAt c HM hR0 fH (blockH m c 0) ∗ sentAt c HM hR1 fH (blockH m c 1) ∗ sentAt c HM hR2 fH (blockH m c 2) ∗ sentAt c HM hR3 fH (blockH m c 3) ∗ sentAt c HM hR4 fH (blockH m c 4)) ⊢ (held c HM (newH m c) : sProp 𝕄))
    ∧ (iprop(sentAt c outM oR0 fo (blockO m c 0) ∗ sentAt c outM oR1 fo (blockO m c 1) ∗ sentAt c outM oR2 fo (blockO m c 2) ∗ sentAt c outM oR3 fo (blockO m c 3) ∗ sentAt c outM oR4 fo (blockO m c 4)) ⊢ (held c outM (newO m c) : sProp 𝕄)) := by
  constructor
  · refine BIBase.Entails.trans ?_ (HM_split c (newH m c)).2
    exact sep_mono (sent_piece c HM hR0 fH _ _ (newH_emb m c 0)) (sep_mono (sent_piece c HM hR1 fH _ _ (newH_emb m c 1))
      (sep_mono (sent_piece c HM hR2 fH _ _ (newH_emb m c 2)) (sep_mono (sent_piece c HM hR3 fH _ _ (newH_emb m c 3)) (sent_piece c HM hR4 fH _ _ (newH_emb m c 4)))))
  · refine BIBase.Entails.trans ?_ (outM_split c (newO m c)).2
    exact sep_mono (sent_piece c outM oR0 fo _ _ (newO_emb m c 0)) (sep_mono (sent_piece c outM oR1 fo _ _ (newO_emb m c 1))
      (sep_mono (sent_piece c outM oR2 fo _ _ (newO_emb m c 2)) (sep_mono (sent_piece c outM oR3 fo _ _ (newO_emb m c 3)) (sent_piece c outM oR4 fo _ _ (newO_emb m c 4)))))

/-- What the body hands back, its staged operands holding the arguments, with the results named by row group. -/
theorem back_named (c : Dev nD) (t : Fin cfg0.N) (f2 : Cts (F := F) c (ms0 t)) (f3 : Cts (F := F) c (ms1 t)) (f4 : Cts (F := F) c (ms2 t)) (f5 : Cts (F := F) c (ms3 t)) (f6 : Cts (F := F) c (ms4 t)) (f7 : Cts (F := F) c (ms5 t)) (f8 : Cts (F := F) c (ms6 t)) (f9 : Cts (F := F) c (ms7 t)) (fo : Cts (F := F) c outM) (fH : Cts (F := F) c HM)
    (e2 : val (ms0 t) f2 = m ((c : Thread nD τ).loc main_arg4)) (e3 : val (ms1 t) f3 = m ((c : Thread nD τ).loc main_arg5)) (e4 : val (ms2 t) f4 = m ((c : Thread nD τ).loc main_arg6)) (e5 : val (ms3 t) f5 = m ((c : Thread nD τ).loc main_arg7)) (e6 : val (ms4 t) f6 = m ((c : Thread nD τ).loc main_arg8)) (e7 : val (ms5 t) f7 = m ((c : Thread nD τ).loc main_arg9)) (e8 : val (ms6 t) f8 = m ((c : Thread nD τ).loc main_arg10)) (e9 : val (ms7 t) f9 = m ((c : Thread nD τ).loc main_arg11)) :
    back c (ms0 t) (ms1 t) (ms2 t) (ms3 t) (ms4 t) (ms5 t) (ms6 t) (ms7 t) f2 f3 f4 f5 f6 f7 f8 f9 (V m c main_arg0) (V m c main_arg3) fo fH = iprop(held c (ms0 t) f2 ∗ held c (ms1 t) f3 ∗ held c (ms2 t) f4 ∗ held c (ms3 t) f5 ∗ held c (ms4 t) f6 ∗ held c (ms5 t) f7 ∗ held c (ms6 t) f8 ∗ held c (ms7 t) f9 ∗ piece c xM xR0 (V m c main_arg0) ∗ piece c xM xR1 (V m c main_arg0) ∗ piece c xM xR2 (V m c main_arg0) ∗ piece c xM xR3 (V m c main_arg0) ∗ piece c xM xR4 (V m c main_arg0) ∗ piece c hM hR0 (V m c main_arg3) ∗ piece c hM hR1 (V m c main_arg3) ∗ piece c hM hR2 (V m c main_arg3) ∗ piece c hM hR3 (V m c main_arg3) ∗ piece c hM hR4 (V m c main_arg3) ∗ sentAt c outM oR0 fo (blockO m c 0) ∗ sentAt c outM oR1 fo (blockO m c 1) ∗ sentAt c outM oR2 fo (blockO m c 2) ∗ sentAt c outM oR3 fo (blockO m c 3) ∗ sentAt c outM oR4 fo (blockO m c 4) ∗ sentAt c HM hR0 fH (blockH m c 0) ∗ sentAt c HM hR1 fH (blockH m c 1) ∗ sentAt c HM hR2 fH (blockH m c 2) ∗ sentAt c HM hR3 fH (blockH m c 3) ∗ sentAt c HM hR4 fH (blockH m c 4) ∗ (∃ k, piece c xs xsR0 k) ∗ (∃ k, piece c xs xsR1 k) ∗ (∃ k, piece c xs xsR2 k) ∗ (∃ k, piece c hs hsR0 k) ∗ (∃ k, piece c hs hsR1 k) ∗ (∃ k, piece c hs hsR2 k) ∗ (∃ k, piece c Hs hsR0 k) ∗ (∃ k, piece c Hs hsR1 k) ∗ (∃ k, piece c Hs hsR2 k) ∗ (∃ k, piece c os osR0 k) ∗ (∃ k, piece c os osR1 k) ∗ (∃ k, piece c os osR2 k) ∗ (∃ k, held c wb k) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ (∃ W', owes (c : Thread nD τ) 0 W')) := by
  unfold back
  rw [e2, e3, e4, e5, e6, e7, e8, e9]
  rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [Phi_first, Phi_last, after0, after1, after2, after3, after4, after5, after6, after7, before0, before1, before2, before3, before4, before5, before6, before7, iblk0, iblk1, iblk2, iblk3, iblk4, iblk5, iblk6, iblk7]
  unfold Dat.owesAt Pipeline.owesWithin around owns
  rw [show (dats m 0 c).owed t.castSucc = 0 from rfl, show (dats m 0 c).owed t.succ = 0 from rfl]
  iintro ⟨⟨⟨⟨%sx, Sx⟩, ⟨%sh, Sh⟩, ⟨%sH, SH⟩, ⟨%so, So⟩, ⟨%sw, SW⟩⟩, Hg, ⟨Q8, Q9, Q10, Q11, Q12, Q13, Q14, Q15, Q16, Q17, Q18, Q19⟩, ⟨Hx, Hh⟩, ⟨Ho, HH⟩⟩, ⟨%W, -, HW⟩, ⟨%d2, %f2, %e2, HA2⟩, ⟨%d3, %f3, %e3, HA3⟩, ⟨%d4, %f4, %e4, HA4⟩, ⟨%d5, %f5, %e5, HA5⟩, ⟨%d6, %f6, %e6, HA6⟩, ⟨%d7, %f7, %e7, HA7⟩, ⟨%d8, %f8, %e8, HA8⟩, ⟨%d9, %f9, %e9, HA9⟩⟩
  ihave Hx := (xM_split c _).1 $$ Hx
  icases Hx with ⟨Hx0, Hx1, Hx2, Hx3, Hx4⟩
  ihave Hh := (hM_split c _).1 $$ Hh
  icases Hh with ⟨Hh0, Hh1, Hh2, Hh3, Hh4⟩
  ihave Ho := (outM_split c _).1 $$ Ho
  icases Ho with ⟨Ho0, Ho1, Ho2, Ho3, Ho4⟩
  ihave HH := (HM_split c _).1 $$ HH
  icases HH with ⟨HH0, HH1, HH2, HH3, HH4⟩
  ihave Sx := (xs_split c _).1 $$ Sx
  icases Sx with ⟨Sx0, Sx1, Sx2⟩
  ihave Sh := (hs_split c _).1 $$ Sh
  icases Sh with ⟨Sh0, Sh1, Sh2⟩
  ihave SH := (Hs_split c _).1 $$ SH
  icases SH with ⟨SH0, SH1, SH2⟩
  ihave So := (os_split c _).1 $$ So
  icases So with ⟨So0, So1, So2⟩
  iapply (bodyRun c (ms0 t) (hstage0_0 0) (ms1 t) (hstage0_1 0) (ms2 t) (hstage0_2 0) (ms3 t) (hstage0_3 0) (ms4 t) (hstage0_4 0) (ms5 t) (hstage0_5 0) (ms6 t) (hstage0_6 0) (ms7 t) (hstage0_7 0) f2 f3 f4 f5 f6 f7 f8 f9 (V m c main_arg0) (V m c main_arg3) (V m c main_v0_0) (V m c main_v0_1) sx sh sH so sw W _)
  isplitl [HA2 HA3 HA4 HA5 HA6 HA7 HA8 HA9 Hx0 Hx1 Hx2 Hx3 Hx4 Hh0 Hh1 Hh2 Hh3 Hh4 Ho0 Ho1 Ho2 Ho3 Ho4 HH0 HH1 HH2 HH3 HH4 Sx0 Sx1 Sx2 Sh0 Sh1 Sh2 SH0 SH1 SH2 So0 So1 So2 SW Q8 Q9 Q10 Q11 Q12 Q13 Q14 Q15 Q16 Q17 Q18 Q19]
  · unfold lent
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexact HA8
    isplitl [HA9]; · iexact HA9
    isplitl [Hx0]; · iexact Hx0
    isplitl [Hx1]; · iexact Hx1
    isplitl [Hx2]; · iexact Hx2
    isplitl [Hx3]; · iexact Hx3
    isplitl [Hx4]; · iexact Hx4
    isplitl [Hh0]; · iexact Hh0
    isplitl [Hh1]; · iexact Hh1
    isplitl [Hh2]; · iexact Hh2
    isplitl [Hh3]; · iexact Hh3
    isplitl [Hh4]; · iexact Hh4
    isplitl [Ho0]; · iexact Ho0
    isplitl [Ho1]; · iexact Ho1
    isplitl [Ho2]; · iexact Ho2
    isplitl [Ho3]; · iexact Ho3
    isplitl [Ho4]; · iexact Ho4
    isplitl [HH0]; · iexact HH0
    isplitl [HH1]; · iexact HH1
    isplitl [HH2]; · iexact HH2
    isplitl [HH3]; · iexact HH3
    isplitl [HH4]; · iexact HH4
    isplitl [Sx0]; · iexact Sx0
    isplitl [Sx1]; · iexact Sx1
    isplitl [Sx2]; · iexact Sx2
    isplitl [Sh0]; · iexact Sh0
    isplitl [Sh1]; · iexact Sh1
    isplitl [Sh2]; · iexact Sh2
    isplitl [SH0]; · iexact SH0
    isplitl [SH1]; · iexact SH1
    isplitl [SH2]; · iexact SH2
    isplitl [So0]; · iexact So0
    isplitl [So1]; · iexact So1
    isplitl [So2]; · iexact So2
    isplitl [SW]; · iexact SW
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    iexact Q19
  isplitl [HW]; · iexact HW
  rw [back_named m c t f2 f3 f4 f5 f6 f7 f8 f9 _ _ e2 e3 e4 e5 e6 e7 e8 e9]
  iintro ⟨HA2, HA3, HA4, HA5, HA6, HA7, HA8, HA9, Hx0, Hx1, Hx2, Hx3, Hx4, Hh0, Hh1, Hh2, Hh3, Hh4, Ho0, Ho1, Ho2, Ho3, Ho4, HH0, HH1, HH2, HH3, HH4, ⟨%kSx0, Sx0⟩, ⟨%kSx1, Sx1⟩, ⟨%kSx2, Sx2⟩, ⟨%kSh0, Sh0⟩, ⟨%kSh1, Sh1⟩, ⟨%kSh2, Sh2⟩, ⟨%kSH0, SH0⟩, ⟨%kSH1, SH1⟩, ⟨%kSH2, SH2⟩, ⟨%kSo0, So0⟩, ⟨%kSo1, So1⟩, ⟨%kSo2, So2⟩, ⟨%kSW, SW⟩, Q8, Q9, Q10, Q11, Q12, Q13, Q14, Q15, Q16, Q17, Q18, Q19, ⟨%W', HW'⟩⟩
  ihave Hx := (xM_split c _).2 $$ [Hx0 Hx1 Hx2 Hx3 Hx4]
  · isplitl [Hx0]; · iexact Hx0
    isplitl [Hx1]; · iexact Hx1
    isplitl [Hx2]; · iexact Hx2
    isplitl [Hx3]; · iexact Hx3
    iexact Hx4
  ihave Hh := (hM_split c _).2 $$ [Hh0 Hh1 Hh2 Hh3 Hh4]
  · isplitl [Hh0]; · iexact Hh0
    isplitl [Hh1]; · iexact Hh1
    isplitl [Hh2]; · iexact Hh2
    isplitl [Hh3]; · iexact Hh3
    iexact Hh4
  ihave HH := (gather m c (V m c main_v0_0) (V m c main_v0_1)).1 $$ [HH0 HH1 HH2 HH3 HH4]
  · isplitl [HH0]; · iexact HH0
    isplitl [HH1]; · iexact HH1
    isplitl [HH2]; · iexact HH2
    isplitl [HH3]; · iexact HH3
    iexact HH4
  ihave Ho := (gather m c (V m c main_v0_0) (V m c main_v0_1)).2 $$ [Ho0 Ho1 Ho2 Ho3 Ho4]
  · isplitl [Ho0]; · iexact Ho0
    isplitl [Ho1]; · iexact Ho1
    isplitl [Ho2]; · iexact Ho2
    isplitl [Ho3]; · iexact Ho3
    iexact Ho4
  ihave Sx := (xs_join c _ _ _) $$ [Sx0 Sx1 Sx2]
  · isplitl [Sx0]; · iexact Sx0
    isplitl [Sx1]; · iexact Sx1
    iexact Sx2
  ihave Sh := (hs_join c _ _ _) $$ [Sh0 Sh1 Sh2]
  · isplitl [Sh0]; · iexact Sh0
    isplitl [Sh1]; · iexact Sh1
    iexact Sh2
  ihave SH := (Hs_join c _ _ _) $$ [SH0 SH1 SH2]
  · isplitl [SH0]; · iexact SH0
    isplitl [SH1]; · iexact SH1
    iexact SH2
  ihave So := (os_join c _ _ _) $$ [So0 So1 So2]
  · isplitl [So0]; · iexact So0
    isplitl [So1]; · iexact So1
    iexact So2
  isplitl [Sx Sh SH So SW Hg Q8 Q9 Q10 Q11 Q12 Q13 Q14 Q15 Q16 Q17 Q18 Q19 Hx Hh Ho HH]
  · isplitl [Sx Sh SH So SW]
    · isplitl [Sx]; · iexact Sx
      isplitl [Sh]; · iexact Sh
      isplitl [SH]; · iexact SH
      isplitl [So]; · iexact So
      iexists _; iexact SW
    isplitl [Hg]; · iexact Hg
    isplitl [Q8 Q9 Q10 Q11 Q12 Q13 Q14 Q15 Q16 Q17 Q18 Q19]
    · isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      isplitl [Q15]; · iexact Q15
      isplitl [Q16]; · iexact Q16
      isplitl [Q17]; · iexact Q17
      isplitl [Q18]; · iexact Q18
      iexact Q19
    isplitl [Hx Hh]
    · isplitl [Hx]; · iexact Hx
      iexact Hh
    isplitl [Ho]; · iexact Ho
    iexact HH
  isplitl [HW']
  · iexists W'; isplitr; · ipureintro; exact fun _ _ => Or.inl trivial
    iexact HW'
  isplitl [HA2]
  · iexists f2; isplitr; · ipureintro; exact e2
    iexact HA2
  isplitl [HA3]
  · iexists f3; isplitr; · ipureintro; exact e3
    iexact HA3
  isplitl [HA4]
  · iexists f4; isplitr; · ipureintro; exact e4
    iexact HA4
  isplitl [HA5]
  · iexists f5; isplitr; · ipureintro; exact e5
    iexact HA5
  isplitl [HA6]
  · iexists f6; isplitr; · ipureintro; exact e6
    iexact HA6
  isplitl [HA7]
  · iexists f7; isplitr; · ipureintro; exact e7
    iexact HA7
  isplitl [HA8]
  · iexists f8; isplitr; · ipureintro; exact e8
    iexact HA8
  iexists f9; isplitr; · ipureintro; exact e9
  iexact HA9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := launchMain m Variants.none) (hA := A_eq m) (G := G m)
    (hin := fun c => by
      rw [show (dats m 0 c).Φ 0 = Pipeline.ΦDRG osem0 spec0 H0 R0 (V m) (V m) c from (show (if (0 : Fin (cfg0.N + 1)).val = 0 then Pipeline.ΦDRG osem0 spec0 H0 R0 (V m) (V m) c else Pipeline.ΦDRG osem0 spec0 H0 R0 (V m) (G m) c) = _ from if_pos rfl)])
    (hout := fun c => by
      rw [show (dats m 0 c).Φ (Fin.last cfg0.N) = Pipeline.ΦDRG osem0 spec0 H0 R0 (V m) (G m) c from (show (if (Fin.last cfg0.N).val = 0 then Pipeline.ΦDRG osem0 spec0 H0 R0 (V m) (V m) c else Pipeline.ΦDRG osem0 spec0 H0 R0 (V m) (G m) c) = _ from if_neg (by show ¬ grid0.N = 0; rw [N_0]; decide))])

/-- An array the kernel neither stages nor touches by its own transfers, or only reads, keeps its contents; the two results
    hold their values; every counter is zero. -/
theorem launched : θ_run defs (onTc (τ := τ) (main (F := F))) ⟨m, fun _ => 0, ρ⟩ (fun r => (∀ c : Dev nD,
      r.2.mem ((c.tc : Thread nD τ).loc main_v0_0) = newO m c
      ∧ r.2.mem ((c.tc : Thread nD τ).loc main_v0_1) = newH m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨(h.1.2 c main_v0_0 (by decide)).trans (G_O m c), (h.1.2 c main_v0_1 (by decide)).trans (G_H m c),
      (h.1.1 c).2 main_arg0 (Finset.mem_sdiff.mpr ⟨Pipeline.mem_restRefs_of main_arg0 (by decide) (by decide), by decide⟩),
      (h.1.1 c).2 main_arg1 (Finset.mem_sdiff.mpr ⟨Pipeline.mem_restRefs_of main_arg1 (by decide) (by decide), by decide⟩),
      (h.1.1 c).2 main_arg2 (Finset.mem_sdiff.mpr ⟨Pipeline.mem_restRefs_of main_arg2 (by decide) (by decide), by decide⟩),
      (h.1.1 c).2 main_arg3 (Finset.mem_sdiff.mpr ⟨Pipeline.mem_restRefs_of main_arg3 (by decide) (by decide), by decide⟩),
      ((h.1.1 c).1 0).trans (((dats m 0 c).arrAt_in 0 rfl _).trans (A_eq m c 0)),
      ((h.1.1 c).1 1).trans (((dats m 0 c).arrAt_in 1 rfl _).trans (A_eq m c 1)),
      ((h.1.1 c).1 2).trans (((dats m 0 c).arrAt_in 2 rfl _).trans (A_eq m c 2)),
      ((h.1.1 c).1 3).trans (((dats m 0 c).arrAt_in 3 rfl _).trans (A_eq m c 3)),
      ((h.1.1 c).1 4).trans (((dats m 0 c).arrAt_in 4 rfl _).trans (A_eq m c 4)),
      ((h.1.1 c).1 5).trans (((dats m 0 c).arrAt_in 5 rfl _).trans (A_eq m c 5)),
      ((h.1.1 c).1 6).trans (((dats m 0 c).arrAt_in 6 rfl _).trans (A_eq m c 6)),
      ((h.1.1 c).1 7).trans (((dats m 0 c).arrAt_in 7 rfl _).trans (A_eq m c 7))⟩, h.2⟩) (run_main m ρ)

end Cert.KernelIdeal.Hand

end
-- ==== Proof.Frames.lean ====
module

public import proofs.«01_k».proof.Defs
public import proofs.«01_k».proof.Proof.Launch
public import proofs.«01_k».proof.Proof.Gen.Kernel.Launch
public import proofs.«01_k».proof.Proof.Gen.ReferenceIdeal.Run
public import Idealize.ShloMosaic.Lib.Quiescent

@[expose] public section

/-! The frames of the three programs. The kernel as printed and its idealization are the same program, so one run proves
both frames, each at its own numbers. -/

noncomputable section

namespace Cert.Frames

open Idealize.ShloMosaic Idealize.SL.Sem

section Same
variable {F : FTy → Type} [FloatOps F]

/-- The two programs name the same references. -/
theorem same_sig : Cert.Kernel.sig = Cert.KernelIdeal.sig := rfl
/-- They have the same entry. -/
theorem same_main : Cert.Kernel.main (F := F) = Cert.KernelIdeal.main (F := F) := rfl
/-- They have the same kernel body. -/
theorem same_body : Cert.Kernel.defs₀ (F := F) = Cert.KernelIdeal.defs₀ (F := F) := by
  unfold Cert.Kernel.defs₀ Cert.KernelIdeal.defs₀
  refine congrArg Defs.onTc ?_
  funext l
  match l with
  | 0 => rfl
/-- They run the same definitions. -/
theorem same_defs : Cert.Kernel.defs (F := F) = Cert.KernelIdeal.defs (F := F) := congrArg (Pipeline.defs Cert.KernelIdeal.pcfgs) same_body
end Same

/-- The kernel's frame. -/
theorem kernel : @Cert.quiescent_Kernel Cert.Kernel.Gen.facts := fun m g _ => by
  rw [same_defs]
  exact (θ_run _ _ _).mono (fun r h => ⟨fun c => (h.1 c).2.2, h.2⟩) (Cert.KernelIdeal.Hand.launched (F := Bits) m g)

/-- The idealized kernel's frame. -/
theorem ideal : @Cert.quiescent_KernelIdeal Cert.KernelIdeal.Gen.facts := fun m g _ =>
  (θ_run _ _ _).mono (fun r h => ⟨fun c => (h.1 c).2.2, h.2⟩) (Cert.KernelIdeal.Hand.launched (F := Ideal) m g)

/-- The reference's frame: it has no semaphores. -/
theorem reference : @Cert.quiescent_ReferenceIdeal Cert.ReferenceIdeal.Gen.facts := fun m g _ =>
  (θ_run _ _ _).mono (fun r h => ⟨fun c => (h c).2.2, sem_eq_zero_of_no_sems (by decide) _⟩) (Cert.ReferenceIdeal.Value.run (F := Ideal) m g)

end Cert.Frames

end
-- ==== Proof.Algebra.lean ====
module

public import Idealize.ShloMosaic.Lib.Pointwise

@[expose] public section

/-! The algebra over the extended reals: a product with a sum of weights is the sum of the products, where the operands are
finite. -/

namespace Cert.Algebra

open Idealize.ShloMosaic

/-- A value that is neither infinity. -/
def Fin' (x : EReal) : Prop := x ≠ ⊤ ∧ x ≠ ⊥

/-- A finite value is a real number. -/
theorem Fin'.real {x : EReal} (h : Fin' x) : ∃ r : ℝ, x = r := ⟨x.toReal, (EReal.coe_toReal h.1 h.2).symm⟩
theorem fin_coe (r : ℝ) : Fin' (r : EReal) := ⟨EReal.coe_ne_top r, EReal.coe_ne_bot r⟩
theorem Fin'.mul {x y : EReal} (hx : Fin' x) (hy : Fin' y) : Fin' (x * y) := by
  obtain ⟨a, rfl⟩ := hx.real; obtain ⟨b, rfl⟩ := hy.real
  rw [← EReal.coe_mul]; exact fin_coe _

/-- The logistic function takes finite values only. -/
theorem fin_logistic (x : EReal) : Fin' (Ideal.logistic x) := by
  show Fin' (Ideal.div 1 (1 + Ideal.exp (-x)))
  induction x using EReal.rec with
  | bot =>
    rw [EReal.neg_bot, Ideal.exp_top, show (1 : EReal) + ⊤ = ⊤ from rfl, Ideal.div, if_neg EReal.top_ne_zero, EReal.inv_top, mul_zero]
    exact fin_coe 0
  | top =>
    rw [EReal.neg_top, Ideal.exp_bot, add_zero, Ideal.div, if_neg one_ne_zero, one_mul]
    exact (show ((1 : ℝ) : EReal)⁻¹ = ((1⁻¹ : ℝ) : EReal) from (EReal.coe_inv 1).symm) ▸ fin_coe _
  | coe r =>
    have h : (1 : EReal) + Ideal.exp (-(r : EReal)) = ((1 + Real.exp (-r) : ℝ) : EReal) := by
      rw [← EReal.coe_neg, Ideal.exp_coe, EReal.coe_add]; rfl
    have hp : (1 + Real.exp (-r) : ℝ) ≠ 0 := (add_pos one_pos (Real.exp_pos _)).ne'
    rw [h, Ideal.div, if_neg (by exact_mod_cast hp), one_mul, ← EReal.coe_inv]
    exact fin_coe _

/-- A sum of products with summed weights is the sum of the two sums of products. -/
theorem sum_mul_add {n : ℕ} (a u v : Fin n → EReal) (ha : ∀ k, Fin' (a k)) (hu : ∀ k, Fin' (u k)) (hv : ∀ k, Fin' (v k)) :
    ∑ k, a k * (u k + v k) = (∑ k, a k * u k) + ∑ k, a k * v k := by
  rw [← Finset.sum_add_distrib]
  refine Finset.sum_congr rfl fun k _ => ?_
  obtain ⟨x, hx⟩ := (ha k).real; obtain ⟨y, hy⟩ := (hu k).real; obtain ⟨z, hz⟩ := (hv k).real
  rw [hx, hy, hz]
  exact_mod_cast mul_add x y z

/-- The layer's two contractions, added: the summed weights against the two operands give the two layers' sums. -/
theorem layers {p q : ℕ} (a u v : Fin p → EReal) (b s t : Fin q → EReal) (β : EReal) (ha : ∀ k, Fin' (a k)) (hb : ∀ k, Fin' (b k))
    (hu : ∀ k, Fin' (u k)) (hv : ∀ k, Fin' (v k)) (hs : ∀ k, Fin' (s k)) (ht : ∀ k, Fin' (t k)) :
    (∑ k, a k * (u k + v k)) + (∑ k, b k * (s k + t k)) + β
      = ((∑ k, a k * u k) + ∑ k, b k * s k) + ((∑ k, a k * v k) + ∑ k, b k * t k) + β := by
  rw [sum_mul_add a u v ha hu hv, sum_mul_add b s t hb hs ht, add_add_add_comm]

end Cert.Algebra

end
-- ==== Proof.Finite.lean ====
module

public import proofs.«01_k».proof.Defs
public import proofs.«01_k».proof.Proof.Algebra
public import Idealize.ShloMosaic.Lib.ReduceAll

@[expose] public section

/-! The precondition read back: every element of the named operands is finite. -/

namespace Cert.Pre_finite_operands

open Idealize.ShloMosaic Cert.Algebra

/-- The shapes of the precondition's operations fit. -/
theorem facts : Facts where
  bcast_S_S10000x256 := by decide
  reducesTo_S10000x256_S_d0_1 := by decide
  h_S_ := by decide
  bcast_S_S10000x128 := by decide
  reducesTo_S10000x128_S_d0_1 := by decide
  bcast_S_S2x1x384x128 := by decide
  reducesTo_S2x1x384x128_S_d0_1_2_3 := by decide

/-- A value whose magnitude is below infinity is finite. -/
theorem fin_of_lt (x : Ideal .f32) (h : FloatOps.cmpf .olt (FloatOps.hostAbsf x) (FloatOps.ofBits (F := Ideal) .f32 0x7F800000#32) = 1#1) :
    Fin' x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  rw [max_lt_iff] at hlt
  exact ⟨hlt.1.ne, fun hb => hlt.2.ne (by rw [hb]; rfl)⟩

instance : Subsingleton S_.Idx := ⟨fun a b => funext fun i => i.elim0⟩

/-- An array all of whose elements compare below infinity is finite. -/
theorem fin_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : Fin' (x i) :=
  fin_of_lt (x i) (Host.reduce_andi_all _ _ hr hu j e i)

variable [Facts]
open Facts

/-- The precondition says that the inputs of the layers and their weights are finite. -/
theorem finite (a0 : FVec Ideal S10000x256 .f32) (a1 : IVec S2x160000 32) (a2 : FVec Ideal S160000 .f32) (a3 : FVec Ideal S10000x128 .f32)
    (a4 : FVec Ideal S2x1x384x128 .f32) (a5 : FVec Ideal S128 .f32) (a6 : FVec Ideal S2x1x384x128 .f32) (a7 : FVec Ideal S128 .f32)
    (a8 : FVec Ideal S2x1x384x128 .f32) (a9 : FVec Ideal S128 .f32) (a10 : FVec Ideal S1x128 .f32) (a11 : FVec Ideal S1 .f32)
    (h : fn (F := Ideal) a0 a1 a2 a3 a4 a5 a6 a7 a8 a9 a10 a11 = fun _ => 1#1) :
    (∀ i, Fin' (a0 i)) ∧ (∀ i, Fin' (a3 i)) ∧ (∀ i, Fin' (a4 i)) ∧ (∀ i, Fin' (a6 i)) ∧ (∀ i, Fin' (a8 i)) := by
  have e := congrFun h (fun i => i.elim0)
  obtain ⟨e, e8⟩ := IntOp.andi_eq_one.1 e
  obtain ⟨e, e6⟩ := IntOp.andi_eq_one.1 e
  obtain ⟨e, e4⟩ := IntOp.andi_eq_one.1 e
  obtain ⟨e0, e3⟩ := IntOp.andi_eq_one.1 e
  exact ⟨fin_of_all a0 _ _ _ _ e0, fin_of_all a3 _ _ _ _ e3, fin_of_all a4 _ _ _ _ e4, fin_of_all a6 _ _ _ _ e6, fin_of_all a8 _ _ _ _ e8⟩

end Cert.Pre_finite_operands

end
-- ==== Proof.CellValue.lean ====
module

public import proofs.«01_k».proof.Proof.Cell
public import Idealize.ShloMosaic.Lib.Pointwise
public import Idealize.ShloMosaic.Lib.WritesUnit

@[expose] public section

/-! What the kernel computes for one row group, read at an index over the extended reals. -/

noncomputable section

namespace Cert.KernelIdeal.Hand

open Cert.KernelIdeal Cert.KernelIdeal.Gen
open Idealize.ShloMosaic

/-- The summed weights at an index. -/
theorem gate_apply (w : S2x1x384x128.Idx → EReal) (k : Fin 384) (n : Fin 128) :
    gate (F := Ideal) w (ix2 k n) = w (ix4 0 0 k n) + w (ix4 1 0 k n) := by
  pointwise [gate, k0_pay4]

section Columns
variable {sp : Space} {κ : Kind} {e : EltTy} {Val : EltTy → Type}

/-- A write of 128 columns read at one of them. -/
theorem cols_hit (v : View sig κ sp S384x384 e) (f : v.ty.Contents Val) (o : ℕ)
    (inb : ∀ a, (![0, o] : Fin 2 → ℕ) a + S384x128.size a ≤ S384x384.size a)
    (A : S384x128.Idx → Val e) (L : List (View.Piece Val S384x384 e)) (k : Fin 384) (n : Fin 128) (q : Fin 384) (hq : q.val = o + n.val) :
    v.read Val (v.writes Val f (⟨Rect.unit (s := S384x384) ![0, o] S384x128.size inb, A⟩ :: L)) (ix2 (n0 := 384) (n1 := 384) k q)
      = A (ix2 (n0 := 384) (n1 := 128) k n) := by
  refine View.read_writes_cons_unit_of_mem v f (off' := ![0, o]) inb A L _ (ix2 (n0 := 384) (n1 := 128) k n) rfl ?_
  refine Fin.forall_fin_two.2 ⟨?_, ?_⟩
  · show k.val = 0 + k.val
    exact (Nat.zero_add _).symm
  · show q.val = o + n.val
    exact hq

/-- A write of 128 columns read at a column before them. -/
theorem cols_miss (v : View sig κ sp S384x384 e) (f : v.ty.Contents Val) (o : ℕ)
    (inb : ∀ a, (![0, o] : Fin 2 → ℕ) a + S384x128.size a ≤ S384x384.size a)
    (A : S384x128.Idx → Val e) (L : List (View.Piece Val S384x384 e)) (k : Fin 384) (q : Fin 384) (hq : q.val < o) :
    v.read Val (v.writes Val f (⟨Rect.unit (s := S384x384) ![0, o] S384x128.size inb, A⟩ :: L)) (ix2 (n0 := 384) (n1 := 384) k q)
      = v.read Val (v.writes Val f L) (ix2 (n0 := 384) (n1 := 384) k q) :=
  View.read_writes_cons_unit_of_not_mem v f (off' := ![0, o]) inb A L _ rfl 1 (Or.inl hq)
end Columns

section Stored
variable (wz wr wh : S2x1x384x128.Idx → EReal) (k : Fin 384) (n : Fin 128)

/-- The stored weights' last 128 columns are the candidate's. -/
theorem gates_h : gates (F := Ideal) wz wr wh (ix2 (n0 := 384) (n1 := 384) k ⟨256 + n.val, by omega⟩) = gate (F := Ideal) wh (ix2 k n) :=
  cols_hit _ _ _ _ _ _ k n _ rfl
/-- The middle columns are the reset gate's. -/
theorem gates_r : gates (F := Ideal) wz wr wh (ix2 (n0 := 384) (n1 := 384) k ⟨128 + n.val, by omega⟩) = gate (F := Ideal) wr (ix2 k n) :=
  (cols_miss _ _ _ _ _ _ k _ (by show 128 + n.val < 256; omega)).trans (cols_hit _ _ _ _ _ _ k n _ rfl)
/-- The first columns are the update gate's. -/
theorem gates_z : gates (F := Ideal) wz wr wh (ix2 (n0 := 384) (n1 := 384) k ⟨n.val, by omega⟩) = gate (F := Ideal) wz (ix2 k n) :=
  ((cols_miss _ _ _ _ _ _ k _ (by show n.val < 256; omega)).trans (cols_miss _ _ _ _ _ _ k _ (by show n.val < 128; omega))).trans
    (cols_hit _ _ _ _ _ _ k n _ (Nat.zero_add _).symm)
end Stored

/-- The products with the node features, at an index. -/
theorem accX_apply (x : FVec Ideal S2000x256 .f32) (g : S384x384.Idx → EReal) (r : Fin 2000) (n : Fin 384) :
    accX (F := Ideal) x (wX (F := Ideal) g) (ix2 r n) = ∑ k : Fin 256, x (ix2 r k) * g (ix2 (n0 := 384) (n1 := 384) ⟨k.val, by omega⟩ n) := by
  pointwise [accX, wX]
/-- The products with the state, at an index. -/
theorem accH_apply (h : FVec Ideal S2000x128 .f32) (g : S384x384.Idx → EReal) (r : Fin 2000) (n : Fin 256) :
    accH (F := Ideal) h (wH (F := Ideal) g) (ix2 r n)
      = ∑ k : Fin 128, h (ix2 r k) * g (ix2 (n0 := 384) (n1 := 384) ⟨256 + k.val, by omega⟩ ⟨n.val, by omega⟩) := by
  pointwise [accH, wH]

/-- The arithmetic of the cell at an index, over the two arrays of products. -/
theorem pay9_apply (h : FVec Ideal S2000x128 .f32) (ax : FVec Ideal S2000x384 .f32) (ah : FVec Ideal S2000x256 .f32)
    (bz br bh : FVec Ideal S128 .f32) (g : S384x384.Idx → EReal) (r : Fin 2000) (n : Fin 128) :
    k0_pay9 (F := Ideal) h ax ah bz br bh (wC (F := Ideal) g) (ix2 r n)
      = Ideal.logistic (ax (ix2 r ⟨n.val, by omega⟩) + ah (ix2 r ⟨n.val, by omega⟩) + bz (ix1 n)) * h (ix2 r n)
        + (1 - Ideal.logistic (ax (ix2 r ⟨n.val, by omega⟩) + ah (ix2 r ⟨n.val, by omega⟩) + bz (ix1 n)))
          * Ideal.tanh (ax (ix2 r ⟨256 + n.val, by omega⟩)
            + (∑ k : Fin 128, Ideal.logistic (ax (ix2 r ⟨128 + k.val, by omega⟩) + ah (ix2 r ⟨128 + k.val, by omega⟩) + br (ix1 k)) * h (ix2 r k)
                * g (ix2 (n0 := 384) (n1 := 384) ⟨256 + k.val, by omega⟩ ⟨256 + n.val, by omega⟩))
            + bh (ix1 n)) := by
  pointwise [k0_pay9, wC]

/-- The prediction at an index, over the new hidden state. -/
theorem pay11_apply (h : FVec Ideal S2000x128 .f32) (ax : FVec Ideal S2000x384 .f32) (ah : FVec Ideal S2000x256 .f32)
    (bz br bh : FVec Ideal S128 .f32) (w : FVec Ideal S128x128 .bf16) (lw : FVec Ideal S1x128 .f32) (lb : FVec Ideal S1 .f32) (r : Fin 2000) :
    k0_pay11 (F := Ideal) h ax ah bz br bh w lw lb (ix2 r 0)
      = (∑ k : Fin 128, max (k0_pay9 (F := Ideal) h ax ah bz br bh w (ix2 r k)) 0 * lw (ix2 0 k)) + lb (ix1 0) := by
  generalize hp : k0_pay9 (F := Ideal) h ax ah bz br bh w = p
  unfold k0_pay11
  rw [hp]
  pointwise

end Cert.KernelIdeal.Hand

end
-- ==== Proof.RefValue.lean ====
module

public import proofs.«01_k».proof.Proof.Gen.ReferenceIdeal.Run
public import Idealize.ShloMosaic.Lib.Pointwise

@[expose] public section

/-! What the reference computes: its results named piece by piece, and read at an index. -/

noncomputable section

namespace Cert.ReferenceIdeal.Hand

open Cert.ReferenceIdeal Cert.ReferenceIdeal.Gen Cert.ReferenceIdeal.Value
open Idealize.ShloMosaic

variable {F : FTy → Type} [FloatOps F]

/-- The node features and the state, side by side. -/
def cat (x : FVec F S10000x256 .f32) (h : FVec F S10000x128 .f32) : FVec F S10000x384 .f32 :=
  concatenate S10000x384 1 [⟨S10000x256, x⟩, ⟨S10000x128, h⟩] concatenates_S10000x256_S10000x128_S10000x384_d1

/-- The sum of two linear layers and a bias: the diffusion convolution of a graph without edges. -/
def lin (a : FVec F S10000x384 .f32) (w : FVec F S2x1x384x128 .f32) (b : FVec F S128 .f32) : FVec F S10000x128 .f32 :=
  addf (addf
      (Host.dotGeneral dot_S10000x384_S384x128_S10000x128_1_0_0_1_n_n none a
        (shapeCast _ (extractStridedSlice S1x1x384x128 ![0, 0, 0, 0] w slices_S2x1x384x128_S1x1x384x128_0_0_0_0) shapeCasts_S1x1x384x128_S384x128))
      (Host.dotGeneral dot_S10000x384_S384x128_S10000x128_1_0_0_1_n_n none a
        (shapeCast _ (extractStridedSlice S1x1x384x128 ![1, 0, 0, 0] w slices_S2x1x384x128_S1x1x384x128_1_0_0_0) shapeCasts_S1x1x384x128_S384x128)))
    (broadcastInDim S10000x128 ![0, 1] bcast_S1x128_S10000x128_0_1 (broadcastInDim S1x128 ![1] bcast_S128_S1x128_1 b))

/-- One everywhere. -/
def ones : FVec F S10000x128 .f32 := broadcastInDim S10000x128 ![] bcast_S_S10000x128 (constant S_ .f32 0x3F800000#32)

/-- The logistic function, as the reference spells it. -/
def sig (y : FVec F S10000x128 .f32) : FVec F S10000x128 .f32 := Host.divf ones (addf ones (Host.exp (Host.negf y)))

/-- The new hidden state, from the operands. -/
def refH (x : FVec F S10000x256 .f32) (h : FVec F S10000x128 .f32) (wz : FVec F S2x1x384x128 .f32) (bz : FVec F S128 .f32)
    (wr : FVec F S2x1x384x128 .f32) (br : FVec F S128 .f32) (wh : FVec F S2x1x384x128 .f32) (bh : FVec F S128 .f32) :
    FVec F S10000x128 .f32 :=
  addf (mulf (sig (lin (cat x h) wz bz)) h)
    (mulf (subf ones (sig (lin (cat x h) wz bz)))
      (Host.tanh (lin (cat x (mulf (sig (lin (cat x h) wr br)) h)) wh bh)))

/-- The prediction, from the new hidden state. -/
def refO (H : FVec F S10000x128 .f32) (lw : FVec F S1x128 .f32) (lb : FVec F S1 .f32) : FVec F S10000x1 .f32 :=
  addf (Host.dotGeneral dot_S10000x128_S128x1_S10000x1_1_0_0_1_n_n none
      (maximumf H (broadcastInDim S10000x128 ![] bcast_S_S10000x128 (constant S_ .f32 0x00000000#32)))
      (transpose S128x1 [1, 0] lw transposes_S1x128_S128x1_1_0))
    (broadcastInDim S10000x1 ![0, 1] bcast_S1x1_S10000x1_0_1 (broadcastInDim S1x1 ![1] bcast_S1_S1x1_1 lb))

/-- The reference's second result is the new hidden state. -/
theorem res_H (m : (ℓ : Loc nD τ Cert.ReferenceIdeal.sig) → Buf (Elt F) ℓ) (c : Dev nD) :
    res_main_v50 m c = refH (m ((c.tc : Thread nD τ).loc main_arg0)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) := rfl

/-- Its first result is the prediction. -/
theorem res_O (m : (ℓ : Loc nD τ Cert.ReferenceIdeal.sig) → Buf (Elt F) ℓ) (c : Dev nD) :
    res_main_v57 m c = refO (res_main_v50 m c) (m ((c.tc : Thread nD τ).loc main_arg10)) (m ((c.tc : Thread nD τ).loc main_arg11)) := rfl

/-- The layers at an index: the contraction cut where the node features end and the state begins. -/
theorem lin_apply (x : FVec Ideal S10000x256 .f32) (h : FVec Ideal S10000x128 .f32) (w : FVec Ideal S2x1x384x128 .f32)
    (b : FVec Ideal S128 .f32) (r : Fin 10000) (n : Fin 128) :
    lin (cat x h) w b (ix2 r n)
      = ((∑ k : Fin 256, x (ix2 r k) * w (ix4 0 0 ⟨k.val, by omega⟩ n)) + ∑ k : Fin 128, h (ix2 r k) * w (ix4 0 0 ⟨256 + k.val, by omega⟩ n))
        + ((∑ k : Fin 256, x (ix2 r k) * w (ix4 1 0 ⟨k.val, by omega⟩ n)) + ∑ k : Fin 128, h (ix2 r k) * w (ix4 1 0 ⟨256 + k.val, by omega⟩ n))
        + b (ix1 n) := by
  pointwise [lin, cat]

/-- The reference's spelling is the logistic function. -/
theorem sig_apply (y : FVec Ideal S10000x128 .f32) (r : Fin 10000) (n : Fin 128) :
    sig y (ix2 r n) = Ideal.logistic (y (ix2 r n)) := by
  pointwise [sig, ones]
  rfl

/-- The new hidden state at an index. -/
theorem refH_apply (x : FVec Ideal S10000x256 .f32) (h : FVec Ideal S10000x128 .f32) (wz : FVec Ideal S2x1x384x128 .f32)
    (bz : FVec Ideal S128 .f32) (wr : FVec Ideal S2x1x384x128 .f32) (br : FVec Ideal S128 .f32) (wh : FVec Ideal S2x1x384x128 .f32)
    (bh : FVec Ideal S128 .f32) (r : Fin 10000) (n : Fin 128) :
    refH x h wz bz wr br wh bh (ix2 r n)
      = Ideal.logistic (lin (cat x h) wz bz (ix2 r n)) * h (ix2 r n)
        + (1 - Ideal.logistic (lin (cat x h) wz bz (ix2 r n)))
          * Ideal.tanh (lin (cat x (mulf (sig (lin (cat x h) wr br)) h)) wh bh (ix2 r n)) := by
  rw [← sig_apply]
  generalize hz : lin (cat x h) wz bz = z
  generalize hc : lin (cat x (mulf (sig (lin (cat x h) wr br)) h)) wh bh = t
  unfold refH
  rw [hz, hc]
  pointwise [ones]

/-- The prediction at an index. -/
theorem refO_apply (H : FVec Ideal S10000x128 .f32) (lw : FVec Ideal S1x128 .f32) (lb : FVec Ideal S1 .f32) (r : Fin 10000) :
   refO H lw lb (ix2 r 0) = (∑ k : Fin 128, max (H (ix2 r k)) 0 * lw (ix2 0 k)) + lb (ix1 0) := by
  pointwise [refO]

end Cert.ReferenceIdeal.Hand

end
-- ==== Proof.Equation.lean ====
module

public import proofs.«01_k».proof.Proof.CellValue
public import proofs.«01_k».proof.Proof.RefValue
public import proofs.«01_k».proof.Proof.Algebra

@[expose] public section

/-! The equation: a row of the kernel's cell is the same row of the reference, where the operands are finite. -/

noncomputable section

namespace Cert.Equation

open Idealize.ShloMosaic Cert.Algebra
open Cert.KernelIdeal (S384x384 S2000x256 S2000x128 S2000x384 S2000x256)
open Cert.KernelIdeal.Hand (gates gate gate_apply gates_z gates_r gates_h accX accH wX wH wC accX_apply accH_apply cellH cellO pay9_apply pay11_apply)
open Cert.ReferenceIdeal (S10000x256 S10000x128 S10000x1 S2x1x384x128 S128 S1x128 S1)
open Cert.ReferenceIdeal.Hand (cat lin sig refH refO lin_apply sig_apply refH_apply refO_apply)

section Row
variable (X : FVec Ideal S10000x256 .f32) (H : FVec Ideal S10000x128 .f32)
  (wz wr wh : FVec Ideal S2x1x384x128 .f32) (bz br bh : FVec Ideal S128 .f32)
  (x : FVec Ideal S2000x256 .f32) (h : FVec Ideal S2000x128 .f32) (p : Fin 2000) (r : Fin 10000)

/-- One gate's two contractions over a row, with its summed weights, are the reference's layer over that row. -/
theorem gate_row (w : FVec Ideal S2x1x384x128 .f32) (b : FVec Ideal S128 .f32) (n : Fin 128)
    (hX : ∀ k, Fin' (X (ix2 r k))) (hH : ∀ k, Fin' (H (ix2 r k))) (hw : ∀ i, Fin' (w i)) :
    (∑ k : Fin 256, X (ix2 r k) * gate (F := Ideal) w (ix2 ⟨k.val, by omega⟩ n))
      + (∑ k : Fin 128, H (ix2 r k) * gate (F := Ideal) w (ix2 ⟨256 + k.val, by omega⟩ n)) + b (ix1 n)
      = lin (cat X H) w b (ix2 r n) := by
  simp only [gate_apply]
  rw [lin_apply]
  exact layers _ _ _ _ _ _ _ hX hH (fun _ => hw _) (fun _ => hw _) (fun _ => hw _) (fun _ => hw _)

variable (hx : ∀ k, x (ix2 p k) = X (ix2 r k)) (hh : ∀ k, h (ix2 p k) = H (ix2 r k))
  (hX : ∀ k, Fin' (X (ix2 r k))) (hH : ∀ k, Fin' (H (ix2 r k)))
include hx hh hX hH

/-- The update gate's argument. -/
theorem z_row (hz : ∀ i, Fin' (wz i)) (n : Fin 128) :
    accX (F := Ideal) x (wX (F := Ideal) (gates (F := Ideal) wz wr wh)) (ix2 p ⟨n.val, by omega⟩)
      + accH (F := Ideal) h (wH (F := Ideal) (gates (F := Ideal) wz wr wh)) (ix2 p ⟨n.val, by omega⟩) + bz (ix1 n)
      = lin (cat X H) wz bz (ix2 r n) := by
  rw [accX_apply, accH_apply, ← gate_row X H r wz bz n hX hH hz]
  simp only [gates_z, hx, hh]

/-- The reset gate's argument. -/
theorem r_row (hr : ∀ i, Fin' (wr i)) (n : Fin 128) :
    accX (F := Ideal) x (wX (F := Ideal) (gates (F := Ideal) wz wr wh)) (ix2 p ⟨128 + n.val, by omega⟩)
      + accH (F := Ideal) h (wH (F := Ideal) (gates (F := Ideal) wz wr wh)) (ix2 p ⟨128 + n.val, by omega⟩) + br (ix1 n)
      = lin (cat X H) wr br (ix2 r n) := by
  rw [accX_apply, accH_apply, ← gate_row X H r wr br n hX hH hr]
  simp only [gates_r, hx, hh]

/-- The new hidden state of a row. -/
theorem cell_row (hz : ∀ i, Fin' (wz i)) (hr : ∀ i, Fin' (wr i)) (hw : ∀ i, Fin' (wh i)) (n : Fin 128) :
    cellH (F := Ideal) (gates (F := Ideal) wz wr wh) bz br bh x h (ix2 p n) = refH X H wz bz wr br wh bh (ix2 r n) := by
  unfold cellH
  rw [pay9_apply, refH_apply, z_row X H wz wr wh bz x h p r hx hh hX hH hz n, hh n]
  refine congrArg (fun t : EReal => Ideal.logistic (lin (cat X H) wz bz (ix2 r n)) * H (ix2 r n)
    + (1 - Ideal.logistic (lin (cat X H) wz bz (ix2 r n))) * Ideal.tanh t) ?_
  have hR : ∀ k, (mulf (sig (lin (cat X H) wr br)) H : FVec Ideal S10000x128 .f32) (ix2 r k)
      = Ideal.logistic (lin (cat X H) wr br (ix2 r k)) * H (ix2 r k) := fun k => by
    rw [← sig_apply]; rfl
  rw [← gate_row X _ r wh bh n hX (fun k => by rw [hR]; exact (fin_logistic _).mul (hH k)) hw, accX_apply]
  simp only [r_row X H wz wr wh br x h p r hx hh hX hH hr, gates_h, hx, hh, hR]

/-- The prediction of a row. -/
theorem out_row (lw : FVec Ideal S1x128 .f32) (lb : FVec Ideal S1 .f32)
    (hz : ∀ i, Fin' (wz i)) (hr : ∀ i, Fin' (wr i)) (hw : ∀ i, Fin' (wh i)) :
    cellO (F := Ideal) (gates (F := Ideal) wz wr wh) bz br bh lw lb x h (ix2 p 0)
      = refO (refH X H wz bz wr br wh bh) lw lb (ix2 r 0) := by
  unfold cellO
  rw [pay11_apply, refO_apply]
  have hc := cell_row X H wz wr wh bz br bh x h p r hx hh hX hH hz hr hw
  unfold cellH at hc
  simp only [hc]

end Row

end Cert.Equation

end
-- ==== Proof.Arrays.lean ====
module

public import proofs.«01_k».proof.Proof.Blocks
public import proofs.«01_k».proof.Proof.Equation

@[expose] public section

/-! The two arrays the kernel returns are the reference's, row by row. -/

noncomputable section

namespace Cert.Arrays

open Idealize.ShloMosaic Idealize.ShloMosaic.TcCoe Cert.Algebra Cert.Equation
open Cert.KernelIdeal Cert.KernelIdeal.Hand
open Cert.ReferenceIdeal.Hand (refH refO)

variable (m : (ℓ : Loc nD τ Cert.KernelIdeal.sig) → Buf (Elt Ideal) ℓ) (c : Dev nD)

/-- A row's place in its row group, counted from the start of the array. -/
theorem row_place (r : Fin 10000) : 2000 * (r.val / 2000) + r.val % 2000 = r.val := Nat.div_add_mod _ _

/-- A row of a row group of the node features is a row of the array. -/
theorem xRows_row (r : Fin 10000) (k : Fin 256) :
    xRows (F := Ideal) m c ⟨r.val / 2000, by omega⟩ (ix2 (n0 := 2000) (n1 := 256) ⟨r.val % 2000, Nat.mod_lt _ (by norm_num)⟩ k)
      = (m ((c.tc : Thread nD τ).loc main_arg0) : FVec Ideal S10000x256 .f32) (ix2 r k) := by
  refine congrArg (m ((c.tc : Thread nD τ).loc main_arg0) : FVec Ideal S10000x256 .f32) (funext fun a => ?_)
  match a with
  | ⟨0, _⟩ => exact Fin.ext ((ValueKit.rect_emb_unit_val (s := S10000x256) ![2000 * (r.val / 2000), 0] S2000x256.size _ _ 0).trans (row_place r))
  | ⟨1, _⟩ => exact Fin.ext ((ValueKit.rect_emb_unit_val (s := S10000x256) ![2000 * (r.val / 2000), 0] S2000x256.size _ _ 1).trans (Nat.zero_add _))

/-- The same for the state. -/
theorem hRows_row (r : Fin 10000) (k : Fin 128) :
    hRows (F := Ideal) m c ⟨r.val / 2000, by omega⟩ (ix2 (n0 := 2000) (n1 := 128) ⟨r.val % 2000, Nat.mod_lt _ (by norm_num)⟩ k)
      = (m ((c.tc : Thread nD τ).loc main_arg3) : FVec Ideal S10000x128 .f32) (ix2 r k) := by
  refine congrArg (m ((c.tc : Thread nD τ).loc main_arg3) : FVec Ideal S10000x128 .f32) (funext fun a => ?_)
  match a with
  | ⟨0, _⟩ => exact Fin.ext ((ValueKit.rect_emb_unit_val (s := S10000x128) ![2000 * (r.val / 2000), 0] S2000x128.size _ _ 0).trans (row_place r))
  | ⟨1, _⟩ => exact Fin.ext ((ValueKit.rect_emb_unit_val (s := S10000x128) ![2000 * (r.val / 2000), 0] S2000x128.size _ _ 1).trans (Nat.zero_add _))

/-- The reference's new hidden state, of the kernel's operands. -/
abbrev wantH : FVec Ideal S10000x128 .f32 :=
  refH (m ((c.tc : Thread nD τ).loc main_arg0)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))

/-- The reference's prediction, of the kernel's operands. -/
abbrev wantO : FVec Ideal S10000x1 .f32 :=
  refO (wantH m c) (m ((c.tc : Thread nD τ).loc main_arg10)) (m ((c.tc : Thread nD τ).loc main_arg11))

variable (hx : ∀ i, Fin' ((m ((c.tc : Thread nD τ).loc main_arg0) : FVec Ideal S10000x256 .f32) i))
  (hh : ∀ i, Fin' ((m ((c.tc : Thread nD τ).loc main_arg3) : FVec Ideal S10000x128 .f32) i))
  (hz : ∀ i, Fin' ((m ((c.tc : Thread nD τ).loc main_arg4) : FVec Ideal S2x1x384x128 .f32) i))
  (hr : ∀ i, Fin' ((m ((c.tc : Thread nD τ).loc main_arg6) : FVec Ideal S2x1x384x128 .f32) i))
  (hw : ∀ i, Fin' ((m ((c.tc : Thread nD τ).loc main_arg8) : FVec Ideal S2x1x384x128 .f32) i))
include hx hh hz hr hw

/-- The kernel's new hidden state is the reference's. -/
theorem newH_eq : newH (F := Ideal) m c = wantH m c := by
  funext y
  obtain ⟨r, n, rfl⟩ : ∃ (r : Fin 10000) (n : Fin 128), y = ix2 r n := ⟨y 0, y 1, eq_ix2 y⟩
  exact cell_row _ _ _ _ _ _ _ _ _ _ ⟨r.val % 2000, Nat.mod_lt _ (by norm_num)⟩ r (fun k => xRows_row m c r k) (fun k => hRows_row m c r k)
    (fun k => hx _) (fun k => hh _) hz hr hw n

/-- The kernel's prediction is the reference's. -/
theorem newO_eq : newO (F := Ideal) m c = wantO m c := by
  funext y
  obtain ⟨r, n, rfl⟩ : ∃ (r : Fin 10000) (n : Fin 1), y = ix2 r n := ⟨y 0, y 1, eq_ix2 y⟩
  obtain rfl : n = 0 := Subsingleton.elim _ _
  exact out_row _ _ _ _ _ _ _ _ _ _ ⟨r.val % 2000, Nat.mod_lt _ (by norm_num)⟩ r (fun k => xRows_row m c r k) (fun k => hRows_row m c r k)
    (fun k => hx _) (fun k => hh _) _ _ hz hr hw

end Cert.Arrays

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Finite
public import proofs.«01_k».proof.Proof.Arrays
public import Idealize.ShloMosaic.Adequacy
public import Idealize.ShloMosaic.Init

@[expose] public section

noncomputable section

namespace Cert.Proof

open Idealize.ShloMosaic Idealize.SL.Sem Cert.Kernel

/-- The two programs' results are equal, for finite inputs of the layers and finite weights: the kernel's arrays are the
    reference's functions of the operands, which the two memories share. -/
theorem algebraic : @Cert.algebraic_KernelIdeal_ReferenceIdeal_pre_finite_operands Cert.KernelIdeal.Gen.facts Cert.ReferenceIdeal.Gen.facts
    Cert.Pre_finite_operands.facts := by
  intro m g m' g' hpre hargs
  have hfin := fun c => @Cert.Pre_finite_operands.finite Cert.Pre_finite_operands.facts _ _ _ _ _ _ _ _ _ _ _ _ (hpre c)
  refine ⟨fun c => Cert.Arrays.wantO m c, fun c => Cert.Arrays.wantH m c, ?_, ?_⟩
  · refine (θ_run _ _ _).mono (fun r h c => ?_) (Cert.KernelIdeal.Hand.launched (F := Ideal) m g)
    obtain ⟨hx, hh, hz, hr, hw⟩ := hfin c
    exact ⟨(h.1 c).1.trans (Cert.Arrays.newO_eq m c hx hh hz hr hw), (h.1 c).2.1.trans (Cert.Arrays.newH_eq m c hx hh hz hr hw), (h.1 c).2.2⟩
  · refine (θ_run _ _ _).mono (fun r h c => ?_) (Cert.ReferenceIdeal.Value.run (F := Ideal) m' g')
    obtain ⟨e0, _, _, e3, e4, e5, e6, e7, e8, e9, e10, e11⟩ := hargs c
    have hH : Cert.ReferenceIdeal.Value.res_main_v50 m' c = Cert.Arrays.wantH m c := by
      rw [Cert.ReferenceIdeal.Hand.res_H, e0, e3, e4, e5, e6, e7, e8, e9]
    refine ⟨(h c).1.trans ?_, (h c).2.1.trans hH, (h c).2.2⟩
    rw [Cert.ReferenceIdeal.Hand.res_O, hH, e10, e11]

/-- The claims. -/
theorem claim : Cert.Claim :=
  ⟨Cert.Kernel.Gen.facts, Cert.KernelIdeal.Gen.facts, Cert.ReferenceIdeal.Gen.facts, Cert.Pre_finite_operands.facts,
    Cert.Frames.kernel, Cert.Frames.ideal, fun m g _ => Cert.Frames.ideal m g trivial, Cert.Frames.reference,
    fun m g _ => Cert.Frames.reference m g trivial, trivial, algebraic⟩

end Cert.Proof

end
